-- ==== Defs.lean ====
def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_tail_pre [hPre_tail_pre : Cert.Pre_tail_pre.Facts] (m : (ℓ : Loc Cert.TailIdeal.nD Cert.TailIdeal.τ Cert.TailIdeal.sig) → Buf (Elt Ideal) ℓ) : Prop :=
  ∀ c : Dev Cert.TailIdeal.nD,
    (Cert.Pre_tail_pre.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14)) (m ((c.tc : Thread Cert.TailIdeal.nD Cert.TailIdeal.τ).loc Cert.TailIdeal.main_arg15)) (m ((c.tc : Thread Cert.TailIdeal.nD Cert.TailIdeal.τ).loc Cert.TailIdeal.main_arg16)) (m ((c.tc : Thread Cert.TailIdeal.nD Cert.TailIdeal.τ).loc Cert.TailIdeal.main_arg17))) = (fun _ => 1#1)

def Pre_TailReferenceIdeal (m : (ℓ : Loc Cert.TailReferenceIdeal.nD Cert.TailReferenceIdeal.τ Cert.TailReferenceIdeal.sig) → Buf (Elt Ideal) ℓ) : Prop :=
  True

def Pre_TailReferenceIdeal_tail_pre [hPre_tail_pre : Cert.Pre_tail_pre.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_tail_pre.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9)) (m ((c.tc : Thread Cert.TailReferenceIdeal.nD Cert.TailReferenceIdeal.τ).loc Cert.TailReferenceIdeal.main_arg10)) (m ((c.tc : Thread Cert.TailReferenceIdeal.nD Cert.TailReferenceIdeal.τ).loc Cert.TailReferenceIdeal.main_arg11)) (m ((c.tc : Thread Cert.TailReferenceIdeal.nD Cert.TailReferenceIdeal.τ).loc Cert.TailReferenceIdeal.main_arg12)) (m ((c.tc : Thread Cert.TailReferenceIdeal.nD Cert.TailReferenceIdeal.τ).loc Cert.TailReferenceIdeal.main_arg13)) (m ((c.tc : Thread Cert.TailReferenceIdeal.nD Cert.TailReferenceIdeal.τ).loc Cert.TailReferenceIdeal.main_arg14)) (m ((c.tc : Thread Cert.TailReferenceIdeal.nD Cert.TailReferenceIdeal.τ).loc Cert.TailReferenceIdeal.main_arg15)) (m ((c.tc : Thread Cert.TailReferenceIdeal.nD Cert.TailReferenceIdeal.τ).loc Cert.TailReferenceIdeal.main_arg16)) (m ((c.tc : Thread Cert.TailReferenceIdeal.nD Cert.TailReferenceIdeal.τ).loc Cert.TailReferenceIdeal.main_arg17))) = (fun _ => 1#1)

def Pre_Qkvz (m : (ℓ : Loc Cert.Qkvz.nD Cert.Qkvz.τ Cert.Qkvz.sig) → Buf (Elt Bits) ℓ) : Prop :=
  True

def Pre_QkvzIdeal (m : (ℓ : Loc Cert.QkvzIdeal.nD Cert.QkvzIdeal.τ Cert.QkvzIdeal.sig) → Buf (Elt Ideal) ℓ) : Prop :=
  True

def Pre_QkvzReferenceIdeal (m : (ℓ : Loc Cert.QkvzReferenceIdeal.nD Cert.QkvzReferenceIdeal.τ Cert.QkvzReferenceIdeal.sig) → Buf (Elt Ideal) ℓ) : Prop :=
  True

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15)
      ∧ r.2.mem ((c.tc : Thread Cert.Tail.nD Cert.Tail.τ).loc Cert.Tail.main_arg16) = m ((c.tc : Thread Cert.Tail.nD Cert.Tail.τ).loc Cert.Tail.main_arg16)
      ∧ r.2.mem ((c.tc : Thread Cert.Tail.nD Cert.Tail.τ).loc Cert.Tail.main_arg17) = m ((c.tc : Thread Cert.Tail.nD Cert.Tail.τ).loc Cert.Tail.main_arg17))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
      ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
      ∧ r.2.mem ((c.tc : Thread Cert.TailIdeal.nD Cert.TailIdeal.τ).loc Cert.TailIdeal.main_arg17) = m ((c.tc : Thread Cert.TailIdeal.nD Cert.TailIdeal.τ).loc Cert.TailIdeal.main_arg17))
      ∧ r.2.sem = fun _ => 0)

def quiescent_TailIdeal_pre_tail_pre [hTailIdeal : Cert.TailIdeal.Facts] [hPre_tail_pre : Cert.Pre_tail_pre.Facts] : Prop :=
  ∀ (m : (ℓ : Loc Cert.TailIdeal.nD Cert.TailIdeal.τ Cert.TailIdeal.sig) → Buf (Elt Ideal) ℓ) (g : Dev Cert.TailIdeal.nD → PrngReg), Pre_TailIdeal_tail_pre m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
      ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
      ∧ r.2.mem ((c.tc : Thread Cert.TailIdeal.nD Cert.TailIdeal.τ).loc Cert.TailIdeal.main_arg17) = m ((c.tc : Thread Cert.TailIdeal.nD Cert.TailIdeal.τ).loc Cert.TailIdeal.main_arg17))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12)
      ∧ r.2.mem ((c.tc : Thread Cert.TailReferenceIdeal.nD Cert.TailReferenceIdeal.τ).loc Cert.TailReferenceIdeal.main_arg13) = m ((c.tc : Thread Cert.TailReferenceIdeal.nD Cert.TailReferenceIdeal.τ).loc Cert.TailReferenceIdeal.main_arg13)
      ∧ r.2.mem ((c.tc : Thread Cert.TailReferenceIdeal.nD Cert.TailReferenceIdeal.τ).loc Cert.TailReferenceIdeal.main_arg14) = m ((c.tc : Thread Cert.TailReferenceIdeal.nD Cert.TailReferenceIdeal.τ).loc Cert.TailReferenceIdeal.main_arg14)
      ∧ r.2.mem ((c.tc : Thread Cert.TailReferenceIdeal.nD Cert.TailReferenceIdeal.τ).loc Cert.TailReferenceIdeal.main_arg15) = m ((c.tc : Thread Cert.TailReferenceIdeal.nD Cert.TailReferenceIdeal.τ).loc Cert.TailReferenceIdeal.main_arg15)
      ∧ r.2.mem ((c.tc : Thread Cert.TailReferenceIdeal.nD Cert.TailReferenceIdeal.τ).loc Cert.TailReferenceIdeal.main_arg16) = m ((c.tc : Thread Cert.TailReferenceIdeal.nD Cert.TailReferenceIdeal.τ).loc Cert.TailReferenceIdeal.main_arg16)
      ∧ r.2.mem ((c.tc : Thread Cert.TailReferenceIdeal.nD Cert.TailReferenceIdeal.τ).loc Cert.TailReferenceIdeal.main_arg17) = m ((c.tc : Thread Cert.TailReferenceIdeal.nD Cert.TailReferenceIdeal.τ).loc Cert.TailReferenceIdeal.main_arg17))
      ∧ r.2.sem = fun _ => 0)

def quiescent_TailReferenceIdeal_pre_tail_pre [hTailReferenceIdeal : Cert.TailReferenceIdeal.Facts] [hPre_tail_pre : Cert.Pre_tail_pre.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal_tail_pre m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12)
      ∧ r.2.mem ((c.tc : Thread Cert.TailReferenceIdeal.nD Cert.TailReferenceIdeal.τ).loc Cert.TailReferenceIdeal.main_arg13) = m ((c.tc : Thread Cert.TailReferenceIdeal.nD Cert.TailReferenceIdeal.τ).loc Cert.TailReferenceIdeal.main_arg13)
      ∧ r.2.mem ((c.tc : Thread Cert.TailReferenceIdeal.nD Cert.TailReferenceIdeal.τ).loc Cert.TailReferenceIdeal.main_arg14) = m ((c.tc : Thread Cert.TailReferenceIdeal.nD Cert.TailReferenceIdeal.τ).loc Cert.TailReferenceIdeal.main_arg14)
      ∧ r.2.mem ((c.tc : Thread Cert.TailReferenceIdeal.nD Cert.TailReferenceIdeal.τ).loc Cert.TailReferenceIdeal.main_arg15) = m ((c.tc : Thread Cert.TailReferenceIdeal.nD Cert.TailReferenceIdeal.τ).loc Cert.TailReferenceIdeal.main_arg15)
      ∧ r.2.mem ((c.tc : Thread Cert.TailReferenceIdeal.nD Cert.TailReferenceIdeal.τ).loc Cert.TailReferenceIdeal.main_arg16) = m ((c.tc : Thread Cert.TailReferenceIdeal.nD Cert.TailReferenceIdeal.τ).loc Cert.TailReferenceIdeal.main_arg16)
      ∧ r.2.mem ((c.tc : Thread Cert.TailReferenceIdeal.nD Cert.TailReferenceIdeal.τ).loc Cert.TailReferenceIdeal.main_arg17) = m ((c.tc : Thread Cert.TailReferenceIdeal.nD Cert.TailReferenceIdeal.τ).loc Cert.TailReferenceIdeal.main_arg17))
      ∧ r.2.sem = fun _ => 0)

def quiescent_Qkvz [hQkvz : Cert.Qkvz.Facts] : Prop :=
  ∀ (m : (ℓ : Loc Cert.Qkvz.nD Cert.Qkvz.τ Cert.Qkvz.sig) → Buf (Elt Bits) ℓ) (g : Dev Cert.Qkvz.nD → PrngReg), Pre_Qkvz m →
    θ_run (Cert.Qkvz.defs (F := Bits)) (onTc (τ := Cert.Qkvz.τ) (Cert.Qkvz.main (F := Bits))) ⟨m, fun _ => 0, g⟩ (fun r => (∀ c : Dev Cert.Qkvz.nD,
      r.2.mem ((c.tc : Thread Cert.Qkvz.nD Cert.Qkvz.τ).loc Cert.Qkvz.main_arg0) = m ((c.tc : Thread Cert.Qkvz.nD Cert.Qkvz.τ).loc Cert.Qkvz.main_arg0)
      ∧ r.2.mem ((c.tc : Thread Cert.Qkvz.nD Cert.Qkvz.τ).loc Cert.Qkvz.main_arg1) = m ((c.tc : Thread Cert.Qkvz.nD Cert.Qkvz.τ).loc Cert.Qkvz.main_arg1)
      ∧ r.2.mem ((c.tc : Thread Cert.Qkvz.nD Cert.Qkvz.τ).loc Cert.Qkvz.main_arg2) = m ((c.tc : Thread Cert.Qkvz.nD Cert.Qkvz.τ).loc Cert.Qkvz.main_arg2)
      ∧ r.2.mem ((c.tc : Thread Cert.Qkvz.nD Cert.Qkvz.τ).loc Cert.Qkvz.main_arg3) = m ((c.tc : Thread Cert.Qkvz.nD Cert.Qkvz.τ).loc Cert.Qkvz.main_arg3)
      ∧ r.2.mem ((c.tc : Thread Cert.Qkvz.nD Cert.Qkvz.τ).loc Cert.Qkvz.main_arg4) = m ((c.tc : Thread Cert.Qkvz.nD Cert.Qkvz.τ).loc Cert.Qkvz.main_arg4))
      ∧ r.2.sem = fun _ => 0)

def quiescent_QkvzIdeal [hQkvzIdeal : Cert.QkvzIdeal.Facts] : Prop :=
  ∀ (m : (ℓ : Loc Cert.QkvzIdeal.nD Cert.QkvzIdeal.τ Cert.QkvzIdeal.sig) → Buf (Elt Ideal) ℓ) (g : Dev Cert.QkvzIdeal.nD → PrngReg), Pre_QkvzIdeal m →
    θ_run (Cert.QkvzIdeal.defs (F := Ideal)) (onTc (τ := Cert.QkvzIdeal.τ) (Cert.QkvzIdeal.main (F := Ideal))) ⟨m, fun _ => 0, g⟩ (fun r => (∀ c : Dev Cert.QkvzIdeal.nD,
      r.2.mem ((c.tc : Thread Cert.QkvzIdeal.nD Cert.QkvzIdeal.τ).loc Cert.QkvzIdeal.main_arg0) = m ((c.tc : Thread Cert.QkvzIdeal.nD Cert.QkvzIdeal.τ).loc Cert.QkvzIdeal.main_arg0)
      ∧ r.2.mem ((c.tc : Thread Cert.QkvzIdeal.nD Cert.QkvzIdeal.τ).loc Cert.QkvzIdeal.main_arg1) = m ((c.tc : Thread Cert.QkvzIdeal.nD Cert.QkvzIdeal.τ).loc Cert.QkvzIdeal.main_arg1)
      ∧ r.2.mem ((c.tc : Thread Cert.QkvzIdeal.nD Cert.QkvzIdeal.τ).loc Cert.QkvzIdeal.main_arg2) = m ((c.tc : Thread Cert.QkvzIdeal.nD Cert.QkvzIdeal.τ).loc Cert.QkvzIdeal.main_arg2)
      ∧ r.2.mem ((c.tc : Thread Cert.QkvzIdeal.nD Cert.QkvzIdeal.τ).loc Cert.QkvzIdeal.main_arg3) = m ((c.tc : Thread Cert.QkvzIdeal.nD Cert.QkvzIdeal.τ).loc Cert.QkvzIdeal.main_arg3)
      ∧ r.2.mem ((c.tc : Thread Cert.QkvzIdeal.nD Cert.QkvzIdeal.τ).loc Cert.QkvzIdeal.main_arg4) = m ((c.tc : Thread Cert.QkvzIdeal.nD Cert.QkvzIdeal.τ).loc Cert.QkvzIdeal.main_arg4))
      ∧ r.2.sem = fun _ => 0)

def quiescent_QkvzReferenceIdeal [hQkvzReferenceIdeal : Cert.QkvzReferenceIdeal.Facts] : Prop :=
  ∀ (m : (ℓ : Loc Cert.QkvzReferenceIdeal.nD Cert.QkvzReferenceIdeal.τ Cert.QkvzReferenceIdeal.sig) → Buf (Elt Ideal) ℓ) (g : Dev Cert.QkvzReferenceIdeal.nD → PrngReg), Pre_QkvzReferenceIdeal m →
    θ_run (Cert.QkvzReferenceIdeal.defs (F := Ideal)) (onTc (τ := Cert.QkvzReferenceIdeal.τ) (Cert.QkvzReferenceIdeal.main (F := Ideal))) ⟨m, fun _ => 0, g⟩ (fun r => (∀ c : Dev Cert.QkvzReferenceIdeal.nD,
      r.2.mem ((c.tc : Thread Cert.QkvzReferenceIdeal.nD Cert.QkvzReferenceIdeal.τ).loc Cert.QkvzReferenceIdeal.main_arg0) = m ((c.tc : Thread Cert.QkvzReferenceIdeal.nD Cert.QkvzReferenceIdeal.τ).loc Cert.QkvzReferenceIdeal.main_arg0)
      ∧ r.2.mem ((c.tc : Thread Cert.QkvzReferenceIdeal.nD Cert.QkvzReferenceIdeal.τ).loc Cert.QkvzReferenceIdeal.main_arg1) = m ((c.tc : Thread Cert.QkvzReferenceIdeal.nD Cert.QkvzReferenceIdeal.τ).loc Cert.QkvzReferenceIdeal.main_arg1)
      ∧ r.2.mem ((c.tc : Thread Cert.QkvzReferenceIdeal.nD Cert.QkvzReferenceIdeal.τ).loc Cert.QkvzReferenceIdeal.main_arg2) = m ((c.tc : Thread Cert.QkvzReferenceIdeal.nD Cert.QkvzReferenceIdeal.τ).loc Cert.QkvzReferenceIdeal.main_arg2)
      ∧ r.2.mem ((c.tc : Thread Cert.QkvzReferenceIdeal.nD Cert.QkvzReferenceIdeal.τ).loc Cert.QkvzReferenceIdeal.main_arg3) = m ((c.tc : Thread Cert.QkvzReferenceIdeal.nD Cert.QkvzReferenceIdeal.τ).loc Cert.QkvzReferenceIdeal.main_arg3)
      ∧ r.2.mem ((c.tc : Thread Cert.QkvzReferenceIdeal.nD Cert.QkvzReferenceIdeal.τ).loc Cert.QkvzReferenceIdeal.main_arg4) = m ((c.tc : Thread Cert.QkvzReferenceIdeal.nD Cert.QkvzReferenceIdeal.τ).loc Cert.QkvzReferenceIdeal.main_arg4))
      ∧ r.2.sem = fun _ => 0)

def preserves_Tail_TailIdeal : Prop :=
  IdealRules.named_const.Statement Cert.TailIdeal.κ "gelu_cubic" .f32 0x3D122279#32 ((80338380498831 / 2251799813685248 : ℝ) : EReal)

def algebraic_TailIdeal_TailReferenceIdeal_pre_tail_pre [hTailIdeal : Cert.TailIdeal.Facts] [hTailReferenceIdeal : Cert.TailReferenceIdeal.Facts] [hPre_tail_pre : Cert.Pre_tail_pre.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal_tail_pre m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)
      ∧ m' ((c.tc : Thread Cert.TailReferenceIdeal.nD Cert.TailReferenceIdeal.τ).loc Cert.TailReferenceIdeal.main_arg11) = m ((c.tc : Thread Cert.TailIdeal.nD Cert.TailIdeal.τ).loc Cert.TailIdeal.main_arg11)
      ∧ m' ((c.tc : Thread Cert.TailReferenceIdeal.nD Cert.TailReferenceIdeal.τ).loc Cert.TailReferenceIdeal.main_arg12) = m ((c.tc : Thread Cert.TailIdeal.nD Cert.TailIdeal.τ).loc Cert.TailIdeal.main_arg12)
      ∧ m' ((c.tc : Thread Cert.TailReferenceIdeal.nD Cert.TailReferenceIdeal.τ).loc Cert.TailReferenceIdeal.main_arg13) = m ((c.tc : Thread Cert.TailIdeal.nD Cert.TailIdeal.τ).loc Cert.TailIdeal.main_arg13)
      ∧ m' ((c.tc : Thread Cert.TailReferenceIdeal.nD Cert.TailReferenceIdeal.τ).loc Cert.TailReferenceIdeal.main_arg14) = m ((c.tc : Thread Cert.TailIdeal.nD Cert.TailIdeal.τ).loc Cert.TailIdeal.main_arg14)
      ∧ m' ((c.tc : Thread Cert.TailReferenceIdeal.nD Cert.TailReferenceIdeal.τ).loc Cert.TailReferenceIdeal.main_arg15) = m ((c.tc : Thread Cert.TailIdeal.nD Cert.TailIdeal.τ).loc Cert.TailIdeal.main_arg15)
      ∧ m' ((c.tc : Thread Cert.TailReferenceIdeal.nD Cert.TailReferenceIdeal.τ).loc Cert.TailReferenceIdeal.main_arg16) = m ((c.tc : Thread Cert.TailIdeal.nD Cert.TailIdeal.τ).loc Cert.TailIdeal.main_arg16)
      ∧ m' ((c.tc : Thread Cert.TailReferenceIdeal.nD Cert.TailReferenceIdeal.τ).loc Cert.TailReferenceIdeal.main_arg17) = m ((c.tc : Thread Cert.TailIdeal.nD Cert.TailIdeal.τ).loc Cert.TailIdeal.main_arg17)) →
    ∃ (v0 : (c : Dev Cert.TailIdeal.nD) → Buf (Elt Ideal) ((c.tc : Thread Cert.TailIdeal.nD Cert.TailIdeal.τ).loc Cert.TailIdeal.main_v10)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v10) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
          ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
          ∧ r.2.mem ((c.tc : Thread Cert.TailIdeal.nD Cert.TailIdeal.τ).loc Cert.TailIdeal.main_arg17) = m ((c.tc : Thread Cert.TailIdeal.nD Cert.TailIdeal.τ).loc Cert.TailIdeal.main_arg17))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v119) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11)
          ∧ r.2.mem ((c.tc : Thread Cert.TailReferenceIdeal.nD Cert.TailReferenceIdeal.τ).loc Cert.TailReferenceIdeal.main_arg12) = m' ((c.tc : Thread Cert.TailReferenceIdeal.nD Cert.TailReferenceIdeal.τ).loc Cert.TailReferenceIdeal.main_arg12)
          ∧ r.2.mem ((c.tc : Thread Cert.TailReferenceIdeal.nD Cert.TailReferenceIdeal.τ).loc Cert.TailReferenceIdeal.main_arg13) = m' ((c.tc : Thread Cert.TailReferenceIdeal.nD Cert.TailReferenceIdeal.τ).loc Cert.TailReferenceIdeal.main_arg13)
          ∧ r.2.mem ((c.tc : Thread Cert.TailReferenceIdeal.nD Cert.TailReferenceIdeal.τ).loc Cert.TailReferenceIdeal.main_arg14) = m' ((c.tc : Thread Cert.TailReferenceIdeal.nD Cert.TailReferenceIdeal.τ).loc Cert.TailReferenceIdeal.main_arg14)
          ∧ r.2.mem ((c.tc : Thread Cert.TailReferenceIdeal.nD Cert.TailReferenceIdeal.τ).loc Cert.TailReferenceIdeal.main_arg15) = m' ((c.tc : Thread Cert.TailReferenceIdeal.nD Cert.TailReferenceIdeal.τ).loc Cert.TailReferenceIdeal.main_arg15)
          ∧ r.2.mem ((c.tc : Thread Cert.TailReferenceIdeal.nD Cert.TailReferenceIdeal.τ).loc Cert.TailReferenceIdeal.main_arg16) = m' ((c.tc : Thread Cert.TailReferenceIdeal.nD Cert.TailReferenceIdeal.τ).loc Cert.TailReferenceIdeal.main_arg16)
          ∧ r.2.mem ((c.tc : Thread Cert.TailReferenceIdeal.nD Cert.TailReferenceIdeal.τ).loc Cert.TailReferenceIdeal.main_arg17) = m' ((c.tc : Thread Cert.TailReferenceIdeal.nD Cert.TailReferenceIdeal.τ).loc Cert.TailReferenceIdeal.main_arg17))

def preserves_Qkvz_QkvzIdeal : Prop :=
  True

def algebraic_QkvzIdeal_QkvzReferenceIdeal [hQkvzIdeal : Cert.QkvzIdeal.Facts] [hQkvzReferenceIdeal : Cert.QkvzReferenceIdeal.Facts] : Prop :=
  ∀ (m : (ℓ : Loc Cert.QkvzIdeal.nD Cert.QkvzIdeal.τ Cert.QkvzIdeal.sig) → Buf (Elt Ideal) ℓ) (g : Dev Cert.QkvzIdeal.nD → PrngReg)
    (m' : (ℓ : Loc Cert.QkvzReferenceIdeal.nD Cert.QkvzReferenceIdeal.τ Cert.QkvzReferenceIdeal.sig) → Buf (Elt Ideal) ℓ) (g' : Dev Cert.QkvzReferenceIdeal.nD → PrngReg), Pre_QkvzIdeal m →
    (∀ c : Dev Cert.QkvzIdeal.nD,
      m' ((c.tc : Thread Cert.QkvzReferenceIdeal.nD Cert.QkvzReferenceIdeal.τ).loc Cert.QkvzReferenceIdeal.main_arg0) = m ((c.tc : Thread Cert.QkvzIdeal.nD Cert.QkvzIdeal.τ).loc Cert.QkvzIdeal.main_arg0)
      ∧ m' ((c.tc : Thread Cert.QkvzReferenceIdeal.nD Cert.QkvzReferenceIdeal.τ).loc Cert.QkvzReferenceIdeal.main_arg1) = m ((c.tc : Thread Cert.QkvzIdeal.nD Cert.QkvzIdeal.τ).loc Cert.QkvzIdeal.main_arg1)
      ∧ m' ((c.tc : Thread Cert.QkvzReferenceIdeal.nD Cert.QkvzReferenceIdeal.τ).loc Cert.QkvzReferenceIdeal.main_arg2) = m ((c.tc : Thread Cert.QkvzIdeal.nD Cert.QkvzIdeal.τ).loc Cert.QkvzIdeal.main_arg2)
      ∧ m' ((c.tc : Thread Cert.QkvzReferenceIdeal.nD Cert.QkvzReferenceIdeal.τ).loc Cert.QkvzReferenceIdeal.main_arg3) = m ((c.tc : Thread Cert.QkvzIdeal.nD Cert.QkvzIdeal.τ).loc Cert.QkvzIdeal.main_arg3)
      ∧ m' ((c.tc : Thread Cert.QkvzReferenceIdeal.nD Cert.QkvzReferenceIdeal.τ).loc Cert.QkvzReferenceIdeal.main_arg4) = m ((c.tc : Thread Cert.QkvzIdeal.nD Cert.QkvzIdeal.τ).loc Cert.QkvzIdeal.main_arg4)) →
    ∃ (v0 : (c : Dev Cert.QkvzIdeal.nD) → Buf (Elt Ideal) ((c.tc : Thread Cert.QkvzIdeal.nD Cert.QkvzIdeal.τ).loc Cert.QkvzIdeal.main_v22)),
      θ_run (Cert.QkvzIdeal.defs (F := Ideal)) (onTc (τ := Cert.QkvzIdeal.τ) (Cert.QkvzIdeal.main (F := Ideal))) ⟨m, fun _ => 0, g⟩ (fun r => ∀ c : Dev Cert.QkvzIdeal.nD,
          r.2.mem ((c.tc : Thread Cert.QkvzIdeal.nD Cert.QkvzIdeal.τ).loc Cert.QkvzIdeal.main_v22) = v0 c
          ∧ r.2.mem ((c.tc : Thread Cert.QkvzIdeal.nD Cert.QkvzIdeal.τ).loc Cert.QkvzIdeal.main_arg0) = m ((c.tc : Thread Cert.QkvzIdeal.nD Cert.QkvzIdeal.τ).loc Cert.QkvzIdeal.main_arg0)
          ∧ r.2.mem ((c.tc : Thread Cert.QkvzIdeal.nD Cert.QkvzIdeal.τ).loc Cert.QkvzIdeal.main_arg1) = m ((c.tc : Thread Cert.QkvzIdeal.nD Cert.QkvzIdeal.τ).loc Cert.QkvzIdeal.main_arg1)
          ∧ r.2.mem ((c.tc : Thread Cert.QkvzIdeal.nD Cert.QkvzIdeal.τ).loc Cert.QkvzIdeal.main_arg2) = m ((c.tc : Thread Cert.QkvzIdeal.nD Cert.QkvzIdeal.τ).loc Cert.QkvzIdeal.main_arg2)
          ∧ r.2.mem ((c.tc : Thread Cert.QkvzIdeal.nD Cert.QkvzIdeal.τ).loc Cert.QkvzIdeal.main_arg3) = m ((c.tc : Thread Cert.QkvzIdeal.nD Cert.QkvzIdeal.τ).loc Cert.QkvzIdeal.main_arg3)
          ∧ r.2.mem ((c.tc : Thread Cert.QkvzIdeal.nD Cert.QkvzIdeal.τ).loc Cert.QkvzIdeal.main_arg4) = m ((c.tc : Thread Cert.QkvzIdeal.nD Cert.QkvzIdeal.τ).loc Cert.QkvzIdeal.main_arg4))
      ∧ θ_run (Cert.QkvzReferenceIdeal.defs (F := Ideal)) (onTc (τ := Cert.QkvzReferenceIdeal.τ) (Cert.QkvzReferenceIdeal.main (F := Ideal))) ⟨m', fun _ => 0, g'⟩ (fun r => ∀ c : Dev Cert.QkvzReferenceIdeal.nD,
          r.2.mem ((c.tc : Thread Cert.QkvzReferenceIdeal.nD Cert.QkvzReferenceIdeal.τ).loc Cert.QkvzReferenceIdeal.main_v50) = v0 c
          ∧ r.2.mem ((c.tc : Thread Cert.QkvzReferenceIdeal.nD Cert.QkvzReferenceIdeal.τ).loc Cert.QkvzReferenceIdeal.main_arg0) = m' ((c.tc : Thread Cert.QkvzReferenceIdeal.nD Cert.QkvzReferenceIdeal.τ).loc Cert.QkvzReferenceIdeal.main_arg0)
          ∧ r.2.mem ((c.tc : Thread Cert.QkvzReferenceIdeal.nD Cert.QkvzReferenceIdeal.τ).loc Cert.QkvzReferenceIdeal.main_arg1) = m' ((c.tc : Thread Cert.QkvzReferenceIdeal.nD Cert.QkvzReferenceIdeal.τ).loc Cert.QkvzReferenceIdeal.main_arg1)
          ∧ r.2.mem ((c.tc : Thread Cert.QkvzReferenceIdeal.nD Cert.QkvzReferenceIdeal.τ).loc Cert.QkvzReferenceIdeal.main_arg2) = m' ((c.tc : Thread Cert.QkvzReferenceIdeal.nD Cert.QkvzReferenceIdeal.τ).loc Cert.QkvzReferenceIdeal.main_arg2)
          ∧ r.2.mem ((c.tc : Thread Cert.QkvzReferenceIdeal.nD Cert.QkvzReferenceIdeal.τ).loc Cert.QkvzReferenceIdeal.main_arg3) = m' ((c.tc : Thread Cert.QkvzReferenceIdeal.nD Cert.QkvzReferenceIdeal.τ).loc Cert.QkvzReferenceIdeal.main_arg3)
          ∧ r.2.mem ((c.tc : Thread Cert.QkvzReferenceIdeal.nD Cert.QkvzReferenceIdeal.τ).loc Cert.QkvzReferenceIdeal.main_arg4) = m' ((c.tc : Thread Cert.QkvzReferenceIdeal.nD Cert.QkvzReferenceIdeal.τ).loc Cert.QkvzReferenceIdeal.main_arg4))

def Claim : Prop :=
  ∃ (hTail : Cert.Tail.Facts) (hTailIdeal : Cert.TailIdeal.Facts) (hTailReferenceIdeal : Cert.TailReferenceIdeal.Facts) (hQkvz : Cert.Qkvz.Facts) (hQkvzIdeal : Cert.QkvzIdeal.Facts) (hQkvzReferenceIdeal : Cert.QkvzReferenceIdeal.Facts) (hPre_tail_pre : Cert.Pre_tail_pre.Facts),
    quiescent_Tail (hTail := hTail)
    ∧ quiescent_TailIdeal (hTailIdeal := hTailIdeal)
    ∧ quiescent_TailIdeal_pre_tail_pre (hTailIdeal := hTailIdeal) (hPre_tail_pre := hPre_tail_pre)
    ∧ quiescent_TailReferenceIdeal (hTailReferenceIdeal := hTailReferenceIdeal)
    ∧ quiescent_TailReferenceIdeal_pre_tail_pre (hTailReferenceIdeal := hTailReferenceIdeal) (hPre_tail_pre := hPre_tail_pre)
    ∧ quiescent_Qkvz (hQkvz := hQkvz)
    ∧ quiescent_QkvzIdeal (hQkvzIdeal := hQkvzIdeal)
    ∧ quiescent_QkvzReferenceIdeal (hQkvzReferenceIdeal := hQkvzReferenceIdeal)
    ∧ preserves_Tail_TailIdeal
    ∧ algebraic_TailIdeal_TailReferenceIdeal_pre_tail_pre (hTailIdeal := hTailIdeal) (hTailReferenceIdeal := hTailReferenceIdeal) (hPre_tail_pre := hPre_tail_pre)
    ∧ preserves_Qkvz_QkvzIdeal
    ∧ algebraic_QkvzIdeal_QkvzReferenceIdeal (hQkvzIdeal := hQkvzIdeal) (hQkvzReferenceIdeal := hQkvzReferenceIdeal)
-- ==== Pre_tail_pre.lean ====
abbrev S4x8192x1024 : Shape := ⟨3, ![4, 8192, 1024]⟩
abbrev S32768x1024 : Shape := ⟨2, ![32768, 1024]⟩
abbrev S32768x2048 : Shape := ⟨2, ![32768, 2048]⟩
abbrev S4x1x1024 : Shape := ⟨3, ![4, 1, 1024]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩

class Facts : Prop where
  bitsLt_bf16_f32 : FTy.bits .bf16 < FTy.bits .f32
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S32768x2048 : S_.BroadcastsInDim S32768x2048 (![] : Fin 0 → Fin S32768x2048.rank)
  reducesTo_S32768x2048_S_d0_1 : S32768x2048.ReducesTo [0, 1] S_
  bcast_S_S4x1x1024 : S_.BroadcastsInDim S4x1x1024 (![] : Fin 0 → Fin S4x1x1024.rank)
  reducesTo_S4x1x1024_S_d0_1_2 : S4x1x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S3x2816 : S_.BroadcastsInDim S3x2816 (![] : Fin 0 → Fin S3x2816.rank)
  reducesTo_S3x2816_S_d0_1 : S3x2816.ReducesTo [0, 1] S_
  bcast_S_S2816 : S_.BroadcastsInDim S2816 (![] : Fin 0 → Fin S2816.rank)
  reducesTo_S2816_S_d0 : S2816.ReducesTo [0] S_

variable [Facts]

def fn_part3 {F : FTy → Type} [FloatOps F] (main_arg14 : FVec F S2816 .f32) (main_v6 : IVec S_ 1) (main_v10 : IVec S_ 1) (main_v14 : IVec S_ 1) (main_v18 : IVec S_ 1) (main_v22 : IVec S_ 1) (main_v26 : IVec S_ 1) (main_v30 : IVec S_ 1) (main_v34 : IVec S_ 1) (main_v38 : IVec S_ 1) (main_v42 : IVec S_ 1) (main_v46 : IVec S_ 1) (main_v47 : FVec F S3x2816 .f32) (main_v48 : FVec F S3x2816 .f32) : IVec S_ 1 :=
  let main_v49 : IVec S3x2816 1 := cmpf .olt main_v47 main_v48
  let main_c_21 : IVec S_ 1 := constantI S_ 1 1#1
  let main_v50 : IVec S_ 1 := (fun x v => Host.reduce IntOp.andi x v reducesTo_S3x2816_S_d0_1 h_S_) main_v49 main_c_21
  let main_v51 : FVec F S2816 .f32 := Host.absf main_arg14
  let main_cst_22 : FVec F S_ .f32 := constant S_ .f32 0x7F800000#32
  let main_v52 : FVec F S2816 .f32 := broadcastInDim S2816 ![] bcast_S_S2816 main_cst_22
  let main_v53 : IVec S2816 1 := cmpf .olt main_v51 main_v52
  let main_c_23 : IVec S_ 1 := constantI S_ 1 1#1
  let main_v54 : IVec S_ 1 := (fun x v => Host.reduce IntOp.andi x v reducesTo_S2816_S_d0 h_S_) main_v53 main_c_23
  let main_v55 : IVec S_ 1 := andi main_v6 main_v10
  let main_v56 : IVec S_ 1 := andi main_v55 main_v14
  let main_v57 : IVec S_ 1 := andi main_v56 main_v18
  let main_v58 : IVec S_ 1 := andi main_v57 main_v22
  let main_v59 : IVec S_ 1 := andi main_v58 main_v26
  let main_v60 : IVec S_ 1 := andi main_v59 main_v30
  let main_v61 : IVec S_ 1 := andi main_v60 main_v34
  let main_v62 : IVec S_ 1 := andi main_v61 main_v38
  let main_v63 : IVec S_ 1 := andi main_v62 main_v42
  let main_v64 : IVec S_ 1 := andi main_v63 main_v46
  let main_v65 : IVec S_ 1 := andi main_v64 main_v50
  let main_v66 : IVec S_ 1 := andi main_v65 main_v54
  main_v66

def fn_part2 {F : FTy → Type} [FloatOps F] (main_arg8 : FVec F S4x1x1024 .f32) (main_arg9 : FVec F S4x1x1024 .f32) (main_arg11 : FVec F S1024x2816 .f32) (main_arg13 : FVec F S3x2816 .f32) (main_arg14 : FVec F S2816 .f32) (main_v6 : IVec S_ 1) (main_v10 : IVec S_ 1) (main_v14 : IVec S_ 1) (main_v18 : IVec S_ 1) (main_v22 : IVec S_ 1) (main_v26 : IVec S_ 1) (main_v30 : IVec S_ 1) (main_v31 : FVec F S1024 .f32) (main_v32 : FVec F S1024 .f32) : IVec S_ 1 :=
  let main_v33 : IVec S1024 1 := cmpf .olt main_v31 main_v32
  let main_c_13 : IVec S_ 1 := constantI S_ 1 1#1
  let main_v34 : IVec S_ 1 := (fun x v => Host.reduce IntOp.andi x v reducesTo_S1024_S_d0 h_S_) main_v33 main_c_13
  let main_v35 : FVec F S4x1x1024 .f32 := Host.absf main_arg8
  let main_cst_14 : FVec F S_ .f32 := constant S_ .f32 0x7F800000#32
  let main_v36 : FVec F S4x1x1024 .f32 := broadcastInDim S4x1x1024 ![] bcast_S_S4x1x1024 main_cst_14
  let main_v37 : IVec S4x1x1024 1 := cmpf .olt main_v35 main_v36
  let main_c_15 : IVec S_ 1 := constantI S_ 1 1#1
  let main_v38 : IVec S_ 1 := (fun x v => Host.reduce IntOp.andi x v reducesTo_S4x1x1024_S_d0_1_2 h_S_) main_v37 main_c_15
  let main_v39 : FVec F S4x1x1024 .f32 := Host.absf main_arg9
  let main_cst_16 : FVec F S_ .f32 := constant S_ .f32 0x7F800000#32
  let main_v40 : FVec F S4x1x1024 .f32 := broadcastInDim S4x1x1024 ![] bcast_S_S4x1x1024 main_cst_16
  let main_v41 : IVec S4x1x1024 1 := cmpf .olt main_v39 main_v40
  let main_c_17 : IVec S_ 1 := constantI S_ 1 1#1
  let main_v42 : IVec S_ 1 := (fun x v => Host.reduce IntOp.andi x v reducesTo_S4x1x1024_S_d0_1_2 h_S_) main_v41 main_c_17
  let main_v43 : FVec F S1024x2816 .f32 := Host.absf main_arg11
  let main_cst_18 : FVec F S_ .f32 := constant S_ .f32 0x7F800000#32
  let main_v44 : FVec F S1024x2816 .f32 := broadcastInDim S1024x2816 ![] bcast_S_S1024x2816 main_cst_18
  let main_v45 : IVec S1024x2816 1 := cmpf .olt main_v43 main_v44
  let main_c_19 : IVec S_ 1 := constantI S_ 1 1#1
  let main_v46 : IVec S_ 1 := (fun x v => Host.reduce IntOp.andi x v reducesTo_S1024x2816_S_d0_1 h_S_) main_v45 main_c_19
  let main_v47 : FVec F S3x2816 .f32 := Host.absf main_arg13
  let main_cst_20 : FVec F S_ .f32 := constant S_ .f32 0x7F800000#32
  let main_v48 : FVec F S3x2816 .f32 := broadcastInDim S3x2816 ![] bcast_S_S3x2816 main_cst_20
  fn_part3 (F := F) main_arg14 main_v6 main_v10 main_v14 main_v18 main_v22 main_v26 main_v30 main_v34 main_v38 main_v42 main_v46 main_v47 main_v48

def fn_part1 {F : FTy → Type} [FloatOps F] (main_arg4 : FVec F S4x1x1024 .f32) (main_arg5 : FVec F S1024x1024 .f32) (main_arg6 : FVec F S1024 .f32) (main_arg7 : FVec F S1024 .f32) (main_arg8 : FVec F S4x1x1024 .f32) (main_arg9 : FVec F S4x1x1024 .f32) (main_arg11 : FVec F S1024x2816 .f32) (main_arg13 : FVec F S3x2816 .f32) (main_arg14 : FVec F S2816 .f32) (main_v6 : IVec S_ 1) (main_v10 : IVec S_ 1) (main_v14 : IVec S_ 1) (main_v15 : FVec F S32768x2048 .f32) (main_v16 : FVec F S32768x2048 .f32) : IVec S_ 1 :=
  let main_v17 : IVec S32768x2048 1 := cmpf .olt main_v15 main_v16
  let main_c_5 : IVec S_ 1 := constantI S_ 1 1#1
  let main_v18 : IVec S_ 1 := (fun x v => Host.reduce IntOp.andi x v reducesTo_S32768x2048_S_d0_1 h_S_) main_v17 main_c_5
  let main_v19 : FVec F S4x1x1024 .f32 := Host.absf main_arg4
  let main_cst_6 : FVec F S_ .f32 := constant S_ .f32 0x7F800000#32
  let main_v20 : FVec F S4x1x1024 .f32 := broadcastInDim S4x1x1024 ![] bcast_S_S4x1x1024 main_cst_6
  let main_v21 : IVec S4x1x1024 1 := cmpf .olt main_v19 main_v20
  let main_c_7 : IVec S_ 1 := constantI S_ 1 1#1
  let main_v22 : IVec S_ 1 := (fun x v => Host.reduce IntOp.andi x v reducesTo_S4x1x1024_S_d0_1_2 h_S_) main_v21 main_c_7
  let main_v23 : FVec F S1024x1024 .f32 := Host.absf main_arg5
  let main_cst_8 : FVec F S_ .f32 := constant S_ .f32 0x7F800000#32
  let main_v24 : FVec F S1024x1024 .f32 := broadcastInDim S1024x1024 ![] bcast_S_S1024x1024 main_cst_8
  let main_v25 : IVec S1024x1024 1 := cmpf .olt main_v23 main_v24
  let main_c_9 : IVec S_ 1 := constantI S_ 1 1#1
  let main_v26 : IVec S_ 1 := (fun x v => Host.reduce IntOp.andi x v reducesTo_S1024x1024_S_d0_1 h_S_) main_v25 main_c_9
  let main_v27 : FVec F S1024 .f32 := Host.absf main_arg6
  let main_cst_10 : FVec F S_ .f32 := constant S_ .f32 0x7F800000#32
  let main_v28 : FVec F S1024 .f32 := broadcastInDim S1024 ![] bcast_S_S1024 main_cst_10
  let main_v29 : IVec S1024 1 := cmpf .olt main_v27 main_v28
  let main_c_11 : IVec S_ 1 := constantI S_ 1 1#1
  let main_v30 : IVec S_ 1 := (fun x v => Host.reduce IntOp.andi x v reducesTo_S1024_S_d0 h_S_) main_v29 main_c_11
  let main_v31 : FVec F S1024 .f32 := Host.absf main_arg7
  let main_cst_12 : FVec F S_ .f32 := constant S_ .f32 0x7F800000#32
  let main_v32 : FVec F S1024 .f32 := broadcastInDim S1024 ![] bcast_S_S1024 main_cst_12
  fn_part2 (F := F) main_arg8 main_arg9 main_arg11 main_arg13 main_arg14 main_v6 main_v10 main_v14 main_v18 main_v22 main_v26 main_v30 main_v31 main_v32

def fn {F : FTy → Type} [FloatOps F] (main_arg0 : FVec F S4x8192x1024 .f32) (main_arg1 : FVec F S32768x1024 .bf16) (main_arg2 : FVec F S32768x1024 .bf16) (main_arg3 : FVec F S32768x2048 .bf16) (main_arg4 : FVec F S4x1x1024 .f32) (main_arg5 : FVec F S1024x1024 .f32) (main_arg6 : FVec F S1024 .f32) (main_arg7 : FVec F S1024 .f32) (main_arg8 : FVec F S4x1x1024 .f32) (main_arg9 : FVec F S4x1x1024 .f32) (main_arg10 : FVec F S4x1x1024 .f32) (main_arg11 : FVec F S1024x2816 .f32) (main_arg12 : FVec F S1024x2816 .f32) (main_arg13 : FVec F S3x2816 .f32) (main_arg14 : FVec F S2816 .f32) (main_arg15 : FVec F S2816x1024 .f32) (main_arg16 : FVec F S1024 .f32) (main_arg17 : FVec F S1024 .f32) : IVec S_ 1 :=
  let main_v0 : FVec F S32768x1024 .f32 := (extf .f32 · bitsLt_bf16_f32) main_arg1
  let main_v1 : FVec F S32768x1024 .f32 := (extf .f32 · bitsLt_bf16_f32) main_arg2
  let main_v2 : FVec F S32768x2048 .f32 := (extf .f32 · bitsLt_bf16_f32) main_arg3
  let main_v3 : FVec F S4x8192x1024 .f32 := Host.absf main_arg0
  let main_cst : FVec F S_ .f32 := constant S_ .f32 0x7F800000#32
  let main_v4 : FVec F S4x8192x1024 .f32 := broadcastInDim S4x8192x1024 ![] bcast_S_S4x8192x1024 main_cst
  let main_v5 : IVec S4x8192x1024 1 := cmpf .olt main_v3 main_v4
  let main_c : IVec S_ 1 := constantI S_ 1 1#1
  let main_v6 : IVec S_ 1 := (fun x v => Host.reduce IntOp.andi x v reducesTo_S4x8192x1024_S_d0_1_2 h_S_) main_v5 main_c
  let main_v7 : FVec F S32768x1024 .f32 := Host.absf main_v0
  let main_cst_0 : FVec F S_ .f32 := constant S_ .f32 0x7F800000#32
  let main_v8 : FVec F S32768x1024 .f32 := broadcastInDim S32768x1024 ![] bcast_S_S32768x1024 main_cst_0
  let main_v9 : IVec S32768x1024 1 := cmpf .olt main_v7 main_v8
  let main_c_1 : IVec S_ 1 := constantI S_ 1 1#1
  let main_v10 : IVec S_ 1 := (fun x v => Host.reduce IntOp.andi x v reducesTo_S32768x1024_S_d0_1 h_S_) main_v9 main_c_1
  let main_v11 : FVec F S32768x1024 .f32 := Host.absf main_v1
  let main_cst_2 : FVec F S_ .f32 := constant S_ .f32 0x7F800000#32
  let main_v12 : FVec F S32768x1024 .f32 := broadcastInDim S32768x1024 ![] bcast_S_S32768x1024 main_cst_2
  let main_v13 : IVec S32768x1024 1 := cmpf .olt main_v11 main_v12
  let main_c_3 : IVec S_ 1 := constantI S_ 1 1#1
  let main_v14 : IVec S_ 1 := (fun x v => Host.reduce IntOp.andi x v reducesTo_S32768x1024_S_d0_1 h_S_) main_v13 main_c_3
  let main_v15 : FVec F S32768x2048 .f32 := Host.absf main_v2
  let main_cst_4 : FVec F S_ .f32 := constant S_ .f32 0x7F800000#32
  let main_v16 : FVec F S32768x2048 .f32 := broadcastInDim S32768x2048 ![] bcast_S_S32768x2048 main_cst_4
  fn_part1 (F := F) main_arg4 main_arg5 main_arg6 main_arg7 main_arg8 main_arg9 main_arg11 main_arg13 main_arg14 main_v6 main_v10 main_v14 main_v15 main_v16
-- ==== Tail.lean ====
abbrev S4x8192x1024 : Shape := ⟨3, ![4, 8192, 1024]⟩
abbrev S32768x1024 : Shape := ⟨2, ![32768, 1024]⟩
abbrev S32768x2048 : Shape := ⟨2, ![32768, 2048]⟩
abbrev S4x1x1024 : Shape := ⟨3, ![4, 1, 1024]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S512x1024 : Shape := ⟨2, ![512, 1024]⟩
abbrev S1x1x1024 : Shape := ⟨3, ![1, 1, 1024]⟩
abbrev S8x2816 : Shape := ⟨2, ![8, 2816]⟩
abbrev S512 : Shape := ⟨1, ![512]⟩
abbrev S512x1 : Shape := ⟨2, ![512, 1]⟩
abbrev S512x2816 : Shape := ⟨2, ![512, 2816]⟩
abbrev S520x2816 : Shape := ⟨2, ![520, 2816]⟩

abbrev nBuf : Space → Nat
  | .hbm => 29
  | .vmem => 31
  | .smem => 0
  | _ => 0

abbrev bufTy : (tb : Table) → Fin (tcTables nBuf tb) → BufTy
  | .hbm, ⟨0, _⟩ => ⟨S4x8192x1024, .f32⟩
  | .hbm, ⟨1, _⟩ => ⟨S32768x1024, .bf16⟩
  | .hbm, ⟨2, _⟩ => ⟨S32768x1024, .bf16⟩
  | .hbm, ⟨3, _⟩ => ⟨S32768x2048, .bf16⟩
  | .hbm, ⟨4, _⟩ => ⟨S4x1x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S1024x2816, .f32⟩
  | .hbm, ⟨12, _⟩ => ⟨S1024x2816, .f32⟩
  | .hbm, ⟨13, _⟩ => ⟨S3x2816, .f32⟩
  | .hbm, ⟨14, _⟩ => ⟨S2816, .f32⟩
  | .hbm, ⟨15, _⟩ => ⟨S2816x1024, .f32⟩
  | .hbm, ⟨16, _⟩ => ⟨S1024, .f32⟩
  | .hbm, ⟨17, _⟩ => ⟨S1024, .f32⟩
  | .hbm, ⟨18, _⟩ => ⟨S32768x1024, .f32⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S1024x2816, .bf16⟩
  | .hbm, ⟨23, _⟩ => ⟨S1024x2816, .bf16⟩
  | .hbm, ⟨24, _⟩ => ⟨S1x2816, .f32⟩
  | .hbm, ⟨25, _⟩ => ⟨S2816x1024, .bf16⟩
  | .hbm, ⟨26, _⟩ => ⟨S1x1024, .f32⟩
  | .hbm, ⟨27, _⟩ => ⟨S1x1024, .f32⟩
  | .hbm, ⟨28, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1024x2816, .bf16⟩
  | .local _ .vmem, ⟨22, _⟩ => ⟨S1024x2816, .bf16⟩
  | .local _ .vmem, ⟨23, _⟩ => ⟨S3x2816, .f32⟩
  | .local _ .vmem, ⟨24, _⟩ => ⟨S1x2816, .f32⟩
  | .local _ .vmem, ⟨25, _⟩ => ⟨S2816x1024, .bf16⟩
  | .local _ .vmem, ⟨26, _⟩ => ⟨S1x1024, .f32⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S8x2816, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S3x2816 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S2816x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== TailIdeal.lean ====
variable {F : FTy → Type} [FloatOps F] [Named F]
def κ : String → Option EReal := fun
  | "gelu_cubic" => some ((80338380498831 / 2251799813685248 : ℝ) : EReal)
  | _ => none
-- ==== TailReferenceIdeal.lean ====
abbrev S4x8192x1024 : Shape := ⟨3, ![4, 8192, 1024]⟩
abbrev S32768x1024 : Shape := ⟨2, ![32768, 1024]⟩
abbrev S32768x2048 : Shape := ⟨2, ![32768, 2048]⟩
abbrev S4x1x1024 : Shape := ⟨3, ![4, 1, 1024]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S4x8192x2048 : Shape := ⟨3, ![4, 8192, 2048]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩
abbrev S4x8194x2816 : Shape := ⟨3, ![4, 8194, 2816]⟩
abbrev S1x2816 : Shape := ⟨2, ![1, 2816]⟩
abbrev S1x1x2816 : Shape := ⟨3, ![1, 1, 2816]⟩

abbrev nBuf : Space → Nat
  | .hbm => 160
  | .vmem => 0
  | .smem => 0
  | _ => 0

abbrev hbmTy0_0 (i : Nat) : BufTy := match i % 128 with
  | 0 => ⟨S4x8192x1024, .f32⟩
  | 1 => ⟨S32768x1024, .bf16⟩
  | 2 => ⟨S32768x1024, .bf16⟩
  | 3 => ⟨S32768x2048, .bf16⟩
  | 4 => ⟨S4x1x1024, .f32⟩
  | 5 => ⟨S1024x1024, .f32⟩
  | 6 => ⟨S1024, .f32⟩
  | 7 => ⟨S1024, .f32⟩
  | 8 => ⟨S4x1x1024, .f32⟩
  | 9 => ⟨S4x1x1024, .f32⟩
  | 10 => ⟨S4x1x1024, .f32⟩
  | 11 => ⟨S1024x2816, .f32⟩
  | 12 => ⟨S1024x2816, .f32⟩
  | 13 => ⟨S3x2816, .f32⟩
  | 14 => ⟨S2816, .f32⟩
  | 15 => ⟨S2816x1024, .f32⟩
  | 16 => ⟨S1024, .f32⟩
  | 17 => ⟨S1024, .f32⟩
  | 18 => ⟨S32768x1024, .f32⟩
  | 19 => ⟨S4x8192x1024, .f32⟩
  | 20 => ⟨S32768x1024, .f32⟩
  | 21 => ⟨S4x8192x1024, .f32⟩
  | 22 => ⟨S32768x2048, .f32⟩
  | 23 => ⟨S4x8192x2048, .f32⟩
  | 24 => ⟨S4x8192x1024, .f32⟩
  | 25 => ⟨S4x8192x1024, .f32⟩
  | 26 => ⟨S4x8192x1024, .f32⟩
  | 27 => ⟨S4x8192x1024, .f32⟩
  | 28 => ⟨S4x8192x1024, .f32⟩
  | 29 => ⟨S4x8192x1024, .f32⟩
  | 30 => ⟨S_, .f32⟩
  | 31 => ⟨S4x8192x1024, .f32⟩
  | 32 => ⟨S4x8192x1024, .f32⟩
  | 33 => ⟨S_, .f32⟩
  | 34 => ⟨S4x1x1024, .f32⟩
  | 35 => ⟨S4x1x1024, .f32⟩
  | 36 => ⟨S4x8192x1024, .f32⟩
  | 37 => ⟨S4x8192x1024, .f32⟩
  | 38 => ⟨S4x8192x1024, .f32⟩
  | 39 => ⟨S_, .f32⟩
  | 40 => ⟨S4x8192, .f32⟩
  | 41 => ⟨S4x8192x1, .f32⟩
  | 42 => ⟨S_, .f32⟩
  | 43 => ⟨S4x8192x1, .f32⟩
  | 44 => ⟨S4x8192x1, .f32⟩
  | 45 => ⟨S4x8192x1024, .f32⟩
  | 46 => ⟨S4x8192x1024, .f32⟩
  | 47 => ⟨S4x8192x1024, .f32⟩
  | 48 => ⟨S_, .f32⟩
  | 49 => ⟨S4x8192, .f32⟩
  | 50 => ⟨S4x8192x1, .f32⟩
  | 51 => ⟨S_, .f32⟩
  | 52 => ⟨S4x8192x1, .f32⟩
  | 53 => ⟨S4x8192x1, .f32⟩
  | 54 => ⟨S_, .f32⟩
  | 55 => ⟨S4x8192x1, .f32⟩
  | 56 => ⟨S4x8192x1, .f32⟩
  | 57 => ⟨S4x8192x1, .f32⟩
  | 58 => ⟨S4x8192x1024, .f32⟩
  | 59 => ⟨S4x8192x1024, .f32⟩
  | 60 => ⟨S1x1x1024, .f32⟩
  | 61 => ⟨S4x8192x1024, .f32⟩
  | 62 => ⟨S4x8192x1024, .f32⟩
  | 63 => ⟨S1x1x1024, .f32⟩
  | 64 => ⟨S4x8192x1024, .f32⟩
  | 65 => ⟨S4x8192x1024, .f32⟩
  | 66 => ⟨S_, .f32⟩
  | 67 => ⟨S4x1x1024, .f32⟩
  | 68 => ⟨S4x1x1024, .f32⟩
  | 69 => ⟨S4x8192x1024, .f32⟩
  | 70 => ⟨S4x8192x1024, .f32⟩
  | 71 => ⟨S4x8192x1024, .f32⟩
  | 72 => ⟨S4x8192x1024, .f32⟩
  | 73 => ⟨S4x8192x2816, .f32⟩
  | 74 => ⟨S_, .i32⟩
  | 75 => ⟨S_, .f32⟩
  | 76 => ⟨S4x8194x2816, .f32⟩
  | 77 => ⟨S1x2816, .f32⟩
  | 78 => ⟨S2816, .f32⟩
  | 79 => ⟨S4x8192x2816, .f32⟩
  | 80 => ⟨S1x1x2816, .f32⟩
  | 81 => ⟨S4x8192x2816, .f32⟩
  | 82 => ⟨S4x8192x2816, .f32⟩
  | 83 => ⟨S_, .f32⟩
  | 84 => ⟨S4x8192x2816, .f32⟩
  | 85 => ⟨S4x8192x2816, .f32⟩
  | 86 => ⟨S1x2816, .f32⟩
  | 87 => ⟨S2816, .f32⟩
  | 88 => ⟨S4x8192x2816, .f32⟩
  | 89 => ⟨S1x1x2816, .f32⟩
  | 90 => ⟨S4x8192x2816, .f32⟩
  | 91 => ⟨S4x8192x2816, .f32⟩
  | 92 => ⟨S4x8192x2816, .f32⟩
  | 93 => ⟨S1x2816, .f32⟩
  | 94 => ⟨S2816, .f32⟩
  | 95 => ⟨S4x8192x2816, .f32⟩
  | 96 => ⟨S1x1x2816, .f32⟩
  | 97 => ⟨S4x8192x2816, .f32⟩
  | 98 => ⟨S4x8192x2816, .f32⟩
  | 99 => ⟨S4x8192x2816, .f32⟩
  | 100 => ⟨S1x1x2816, .f32⟩
  | 101 => ⟨S4x8192x2816, .f32⟩
  | 102 => ⟨S4x8192x2816, .f32⟩
  | 103 => ⟨S4x8192x2816, .f32⟩
  | 104 => ⟨S4x8192x2816, .f32⟩
  | 105 => ⟨S_, .f32⟩
  | 106 => ⟨S4x8192x2816, .f32⟩
  | 107 => ⟨S4x8192x2816, .f32⟩
  | 108 => ⟨S4x8192x2816, .f32⟩
  | 109 => ⟨S_, .f32⟩
  | 110 => ⟨S4x8192x2816, .f32⟩
  | 111 => ⟨S4x8192x2816, .f32⟩
  | 112 => ⟨S4x8192x2816, .f32⟩
  | 113 => ⟨S_, .f32⟩
  | 114 => ⟨S4x8192x2816, .f32⟩
  | 115 => ⟨S4x8192x2816, .f32⟩
  | 116 => ⟨S_, .f32⟩
  | 117 => ⟨S4x8192x2816, .f32⟩
  | 118 => ⟨S4x8192x2816, .f32⟩
  | 119 => ⟨S4x8192x2816, .f32⟩
  | 120 => ⟨S4x8192x2816, .f32⟩
  | 121 => ⟨S4x8192x2816, .f32⟩
  | 122 => ⟨S4x8192x1024, .f32⟩
  | 123 => ⟨S_, .f32⟩
  | 124 => ⟨S4x8192x1024, .f32⟩
  | 125 => ⟨S4x8192x1024, .f32⟩
  | 126 => ⟨S_, .f32⟩
  | 127 => ⟨S4x1x1024, .f32⟩
  | _ => ⟨S4x8192x1024, .f32⟩

abbrev hbmTy0_1 (i : Nat) : BufTy := match i % 128 with
  | 0 => ⟨S4x1x1024, .f32⟩
  | 1 => ⟨S4x8192x1024, .f32⟩
  | 2 => ⟨S4x8192x1024, .f32⟩
  | 3 => ⟨S4x8192x1024, .f32⟩
  | 4 => ⟨S_, .f32⟩
  | 5 => ⟨S4x8192, .f32⟩
  | 6 => ⟨S4x8192x1, .f32⟩
  | 7 => ⟨S_, .f32⟩
  | 8 => ⟨S4x8192x1, .f32⟩
  | 9 => ⟨S4x8192x1, .f32⟩
  | 10 => ⟨S4x8192x1024, .f32⟩
  | 11 => ⟨S4x8192x1024, .f32⟩
  | 12 => ⟨S4x8192x1024, .f32⟩
  | 13 => ⟨S_, .f32⟩
  | 14 => ⟨S4x8192, .f32⟩
  | 15 => ⟨S4x8192x1, .f32⟩
  | 16 => ⟨S_, .f32⟩
  | 17 => ⟨S4x8192x1, .f32⟩
  | 18 => ⟨S4x8192x1, .f32⟩
  | 19 => ⟨S_, .f32⟩
  | 20 => ⟨S4x8192x1, .f32⟩
  | 21 => ⟨S4x8192x1, .f32⟩
  | 22 => ⟨S4x8192x1, .f32⟩
  | 23 => ⟨S4x8192x1024, .f32⟩
  | 24 => ⟨S4x8192x1024, .f32⟩
  | 25 => ⟨S1x1x1024, .f32⟩
  | 26 => ⟨S4x8192x1024, .f32⟩
  | 27 => ⟨S4x8192x1024, .f32⟩
  | 28 => ⟨S1x1x1024, .f32⟩
  | 29 => ⟨S4x8192x1024, .f32⟩
  | 30 => ⟨S4x8192x1024, .f32⟩
  | 31 => ⟨S32768x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_cst_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_cst_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c : Ref sig .tc := ⟨.hbm, 74, rfl⟩
abbrev main_call0_v0 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_7 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_8 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_9 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_10 : Ref sig .tc := ⟨.hbm, 113, rfl⟩
abbrev main_v82 : Ref sig .tc := ⟨.hbm, 114, rfl⟩
abbrev main_v83 : Ref sig .tc := ⟨.hbm, 115, rfl⟩
abbrev main_cst_11 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_12 : Ref sig .tc := ⟨.hbm, 123, rfl⟩
abbrev main_v90 : Ref sig .tc := ⟨.hbm, 124, rfl⟩
abbrev main_v91 : Ref sig .tc := ⟨.hbm, 125, rfl⟩
abbrev main_cst_13 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_14 : Ref sig .tc := ⟨.hbm, 132, rfl⟩
abbrev main_v97 : Ref sig .tc := ⟨.hbm, 133, rfl⟩
abbrev main_v98 : Ref sig .tc := ⟨.hbm, 134, rfl⟩
abbrev main_cst_15 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_16 : Ref sig .tc := ⟨.hbm, 141, rfl⟩
abbrev main_v104 : Ref sig .tc := ⟨.hbm, 142, rfl⟩
abbrev main_v105 : Ref sig .tc := ⟨.hbm, 143, rfl⟩
abbrev main_cst_17 : Ref sig .tc := ⟨.hbm, 144, rfl⟩
abbrev main_v106 : Ref sig .tc := ⟨.hbm, 145, rfl⟩
abbrev main_v107 : Ref sig .tc := ⟨.hbm, 146, rfl⟩
abbrev main_cst_18 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩

abbrev nD : Nat := 1
abbrev τ : Topo := Topo.v7x

variable {F : FTy → Type} [FloatOps F]
-- ==== Qkvz.lean ====
abbrev S4x8192x1024 : Shape := ⟨3, ![4, 8192, 1024]⟩
abbrev S4x1x1024 : Shape := ⟨3, ![4, 1, 1024]⟩
abbrev S1024x10784 : Shape := ⟨2, ![1024, 10784]⟩
abbrev S4x4096 : Shape := ⟨2, ![4, 4096]⟩
abbrev S1024x1024 : Shape := ⟨2, ![1024, 1024]⟩
abbrev S1024x2048 : Shape := ⟨2, ![1024, 2048]⟩
abbrev S1024x8x128 : Shape := ⟨3, ![1024, 8, 128]⟩
abbrev S1024x8x256 : Shape := ⟨3, ![1024, 8, 256]⟩
abbrev S1024x8x768 : Shape := ⟨3, ![1024, 8, 768]⟩
abbrev S1024x6144 : Shape := ⟨2, ![1024, 6144]⟩
abbrev S4x1024 : Shape := ⟨2, ![4, 1024]⟩
abbrev S4x2048 : Shape := ⟨2, ![4, 2048]⟩
abbrev S_ : Shape := ⟨0, ![]⟩
abbrev S4x8x128 : Shape := ⟨3, ![4, 8, 128]⟩
abbrev S4x8x256 : Shape := ⟨3, ![4, 8, 256]⟩
abbrev S4x8x768 : Shape := ⟨3, ![4, 8, 768]⟩
abbrev S4x6144 : Shape := ⟨2, ![4, 6144]⟩
abbrev S32768x1024 : Shape := ⟨2, ![32768, 1024]⟩
abbrev S8x32768x768 : Shape := ⟨3, ![8, 32768, 768]⟩
abbrev S512x1024 : Shape := ⟨2, ![512, 1024]⟩
abbrev S1x1x1024 : Shape := ⟨3, ![1, 1, 1024]⟩
abbrev S8x512x768 : Shape := ⟨3, ![8, 512, 768]⟩
abbrev S2x520x512 : Shape := ⟨3, ![2, 520, 512]⟩
abbrev S8x8x512 : Shape := ⟨3, ![8, 8, 512]⟩
abbrev S1x1024 : Shape := ⟨2, ![1, 1024]⟩
abbrev S1024x768 : Shape := ⟨2, ![1024, 768]⟩
abbrev S512x768 : Shape := ⟨2, ![512, 768]⟩
abbrev S512x256 : Shape := ⟨2, ![512, 256]⟩
abbrev S1x512x256 : Shape := ⟨3, ![1, 512, 256]⟩
abbrev S4x512 : Shape := ⟨2, ![4, 512]⟩
abbrev S1x8x512 : Shape := ⟨3, ![1, 8, 512]⟩
abbrev S8x512 : Shape := ⟨2, ![8, 512]⟩
abbrev S1x520x512 : Shape := ⟨3, ![1, 520, 512]⟩
abbrev S520x512 : Shape := ⟨2, ![520, 512]⟩
abbrev S512x512 : Shape := ⟨2, ![512, 512]⟩
abbrev S1x512 : Shape := ⟨2, ![1, 512]⟩
abbrev S128x512 : Shape := ⟨2, ![128, 512]⟩
abbrev S1x128x512 : Shape := ⟨3, ![1, 128, 512]⟩

abbrev nBuf : Space → Nat
  | .hbm => 29
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024x10784, .f32⟩
  | .hbm, ⟨4, _⟩ => ⟨S4x4096, .f32⟩
  | .hbm, ⟨5, _⟩ => ⟨S1024x10784, .bf16⟩
  | .hbm, ⟨6, _⟩ => ⟨S1024x1024, .bf16⟩
  | .hbm, ⟨7, _⟩ => ⟨S1024x1024, .bf16⟩
  | .hbm, ⟨8, _⟩ => ⟨S1024x2048, .bf16⟩
  | .hbm, ⟨9, _⟩ => ⟨S1024x2048, .bf16⟩
  | .hbm, ⟨10, _⟩ => ⟨S1024x8x128, .bf16⟩
  | .hbm, ⟨11, _⟩ => ⟨S1024x8x128, .bf16⟩
  | .hbm, ⟨12, _⟩ => ⟨S1024x8x256, .bf16⟩
  | .hbm, ⟨13, _⟩ => ⟨S1024x8x256, .bf16⟩
  | .hbm, ⟨14, _⟩ => ⟨S1024x8x768, .bf16⟩
  | .hbm, ⟨15, _⟩ => ⟨S1024x6144, .bf16⟩
  | .hbm, ⟨16, _⟩ => ⟨S4x1024, .f32⟩
  | .hbm, ⟨17, _⟩ => ⟨S4x1024, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x8x128, .f32⟩
  | .hbm, ⟨22, _⟩ => ⟨S4x8x128, .f32⟩
  | .hbm, ⟨23, _⟩ => ⟨S4x8x256, .f32⟩
  | .hbm, ⟨24, _⟩ => ⟨S4x8x256, .f32⟩
  | .hbm, ⟨25, _⟩ => ⟨S4x8x768, .f32⟩
  | .hbm, ⟨26, _⟩ => ⟨S4x6144, .f32⟩
  | .hbm, ⟨27, _⟩ => ⟨S32768x1024, .f32⟩
  | .hbm, ⟨28, _⟩ => ⟨S8x32768x768, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x6144, .bf16⟩
  | .local _ .vmem, ⟨7, _⟩ => ⟨S4x6144, .f32⟩
  | .local _ .vmem, ⟨8, _⟩ => ⟨S8x512x768, .bf16⟩
  | .local _ .vmem, ⟨9, _⟩ => ⟨S8x512x768, .bf16⟩
  | .local _ .vmem, ⟨10, _⟩ => ⟨S2x520x512, .f32⟩
  | .local _ .vmem, ⟨11, _⟩ => ⟨S8x8x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkvzReferenceIdeal.lean ====
abbrev S4x8192x1024 : Shape := ⟨3, ![4, 8192, 1024]⟩
abbrev S4x1x1024 : Shape := ⟨3, ![4, 1, 1024]⟩
abbrev S1024x10784 : Shape := ⟨2, ![1024, 10784]⟩
abbrev S4x4096 : Shape := ⟨2, ![4, 4096]⟩
abbrev S_ : Shape := ⟨0, ![]⟩
abbrev S1024x6144 : Shape := ⟨2, ![1024, 6144]⟩
abbrev S4x8192x6144 : Shape := ⟨3, ![4, 8192, 6144]⟩
abbrev S4x8192x4096 : Shape := ⟨3, ![4, 8192, 4096]⟩
abbrev S4x8195x4096 : Shape := ⟨3, ![4, 8195, 4096]⟩
abbrev S1x4096 : Shape := ⟨2, ![1, 4096]⟩
abbrev S4096 : Shape := ⟨1, ![4096]⟩
abbrev S1x1x4096 : Shape := ⟨3, ![1, 1, 4096]⟩
abbrev S4x8192x2048 : Shape := ⟨3, ![4, 8192, 2048]⟩
abbrev S4x8192x8x128 : Shape := ⟨4, ![4, 8192, 8, 128]⟩
abbrev S4x8192x8x256 : Shape := ⟨4, ![4, 8192, 8, 256]⟩
abbrev S4x8192x8x768 : Shape := ⟨4, ![4, 8192, 8, 768]⟩
abbrev S8x4x8192x768 : Shape := ⟨4, ![8, 4, 8192, 768]⟩
abbrev S8x32768x768 : Shape := ⟨3, ![8, 32768, 768]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024x10784, .f32⟩
  | .hbm, ⟨4, _⟩ => ⟨S4x4096, .f32⟩
  | .hbm, ⟨5, _⟩ => ⟨S_, .f32⟩
  | .hbm, ⟨6, _⟩ => ⟨S4x1x1024, .f32⟩
  | .hbm, ⟨7, _⟩ => ⟨S4x1x1024, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S1024x6144, .f32⟩
  | .hbm, ⟨13, _⟩ => ⟨S4x8192x6144, .f32⟩
  | .hbm, ⟨14, _⟩ => ⟨S4x8192x4096, .f32⟩
  | .hbm, ⟨15, _⟩ => ⟨S_, .i32⟩
  | .hbm, ⟨16, _⟩ => ⟨S_, .f32⟩
  | .hbm, ⟨17, _⟩ => ⟨S4x8195x4096, .f32⟩
  | .hbm, ⟨18, _⟩ => ⟨S1x4096, .f32⟩
  | .hbm, ⟨19, _⟩ => ⟨S4096, .f32⟩
  | .hbm, ⟨20, _⟩ => ⟨S4x8192x4096, .f32⟩
  | .hbm, ⟨21, _⟩ => ⟨S1x1x4096, .f32⟩
  | .hbm, ⟨22, _⟩ => ⟨S4x8192x4096, .f32⟩
  | .hbm, ⟨23, _⟩ => ⟨S4x8192x4096, .f32⟩
  | .hbm, ⟨24, _⟩ => ⟨S_, .f32⟩
  | .hbm, ⟨25, _⟩ => ⟨S4x8192x4096, .f32⟩
  | .hbm, ⟨26, _⟩ => ⟨S4x8192x4096, .f32⟩
  | .hbm, ⟨27, _⟩ => ⟨S1x4096, .f32⟩
  | .hbm, ⟨28, _⟩ => ⟨S4096, .f32⟩
  | .hbm, ⟨29, _⟩ => ⟨S4x8192x4096, .f32⟩
  | .hbm, ⟨30, _⟩ => ⟨S1x1x4096, .f32⟩
  | .hbm, ⟨31, _⟩ => ⟨S4x8192x4096, .f32⟩
  | .hbm, ⟨32, _⟩ => ⟨S4x8192x4096, .f32⟩
  | .hbm, ⟨33, _⟩ => ⟨S4x8192x4096, .f32⟩
  | .hbm, ⟨34, _⟩ => ⟨S1x4096, .f32⟩
  | .hbm, ⟨35, _⟩ => ⟨S4096, .f32⟩
  | .hbm, ⟨36, _⟩ => ⟨S4x8192x4096, .f32⟩
  | .hbm, ⟨37, _⟩ => ⟨S1x1x4096, .f32⟩
  | .hbm, ⟨38, _⟩ => ⟨S4x8192x4096, .f32⟩
  | .hbm, ⟨39, _⟩ => ⟨S4x8192x4096, .f32⟩
  | .hbm, ⟨40, _⟩ => ⟨S4x8192x4096, .f32⟩
  | .hbm, ⟨41, _⟩ => ⟨S1x4096, .f32⟩
  | .hbm, ⟨42, _⟩ => ⟨S4096, .f32⟩
  | .hbm, ⟨43, _⟩ => ⟨S4x8192x4096, .f32⟩
  | .hbm, ⟨44, _⟩ => ⟨S1x1x4096, .f32⟩
  | .hbm, ⟨45, _⟩ => ⟨S4x8192x4096, .f32⟩
  | .hbm, ⟨46, _⟩ => ⟨S4x8192x4096, .f32⟩
  | .hbm, ⟨47, _⟩ => ⟨S4x8192x4096, .f32⟩
  | .hbm, ⟨48, _⟩ => ⟨S4x8192x1024, .f32⟩
  | .hbm, ⟨49, _⟩ => ⟨S4x8192x1024, .f32⟩
  | .hbm, ⟨50, _⟩ => ⟨S4x8192x2048, .f32⟩
  | .hbm, ⟨51, _⟩ => ⟨S4x8192x2048, .f32⟩
  | .hbm, ⟨52, _⟩ => ⟨S4x8192x8x128, .f32⟩
  | .hbm, ⟨53, _⟩ => ⟨S4x8192x8x128, .f32⟩
  | .hbm, ⟨54, _⟩ => ⟨S4x8192x8x256, .f32⟩
  | .hbm, ⟨55, _⟩ => ⟨S4x8192x8x256, .f32⟩
  | .hbm, ⟨56, _⟩ => ⟨S4x8192x8x768, .f32⟩
  | .hbm, ⟨57, _⟩ => ⟨S8x4x8192x768, .f32⟩
  | .hbm, ⟨58, _⟩ => ⟨S8x32768x768, .f32⟩
  | .hbm, ⟨59, _⟩ => ⟨S8x32768x768, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩

abbrev nD : Nat := 1
abbrev τ : Topo := Topo.v7x

variable {F : FTy → Type} [FloatOps F]
-- ==== Proof.TailSpec.lean ====
module

public import Idealize.ShloMosaic.Lib.Pointwise
public import Idealize.ShloMosaic.PureOps.Ideal.Laws

@[expose] public section

/-! # What the layer's tail computes, token by token

The two mixers' outputs are merged by their gates, projected and added to the input; a layer norm; a gated MLP with a
causal convolution of width three on its gate path; a second residual and layer norm. A token is numbered `n = b·8192 + s`. -/

noncomputable section

namespace Cert.TailSpec

open Idealize.ShloMosaic

/-- The residual's weight, the fourth root of two as a 32-bit float. -/
abbrev alpha : EReal := Ideal.ofBits .f32 0x3F9837F0#32
/-- The row length 1024. -/
abbrev len : EReal := Ideal.ofBits .f32 0x44800000#32
/-- The layer norm's small constant. -/
abbrev eps : EReal := Ideal.ofBits .f32 0x3727C5AC#32

/-- The mean of a row. -/
def mean (v : Fin 1024 → EReal) : EReal := Ideal.div (∑ k, v k) len

/-- The variance of a row. -/
def var (v : Fin 1024 → EReal) : EReal := Ideal.div (∑ k, (v k - mean v) * (v k - mean v)) len

/-- The layer norm of a row, with gain `g` and bias `b`. -/
def lnorm (v g b : Fin 1024 → EReal) (j : Fin 1024) : EReal :=
  (v j - mean v) * Ideal.rsqrt (var v + eps) * g j + b j

/-- The arguments of the tail, each read at a token or at its own coordinates. -/
structure Args where
  /-- the layer's input -/
  x : Fin 32768 → Fin 1024 → EReal
  /-- the first mixer's output -/
  ya : Fin 32768 → Fin 1024 → EReal
  /-- the second mixer's output -/
  yb : Fin 32768 → Fin 1024 → EReal
  /-- the two gates, side by side -/
  gates : Fin 32768 → Fin 2048 → EReal
  /-- the first residual's gate -/
  gt1 : Fin 4 → Fin 1024 → EReal
  /-- the output projection -/
  wo : Fin 1024 → Fin 1024 → EReal
  /-- gain of the first norm -/
  g1 : Fin 1024 → EReal
  /-- bias of the first norm -/
  b1 : Fin 1024 → EReal
  /-- scale of the modulation -/
  sc : Fin 4 → Fin 1024 → EReal
  /-- shift of the modulation -/
  sh : Fin 4 → Fin 1024 → EReal
  /-- the second residual's gate -/
  gt2 : Fin 4 → Fin 1024 → EReal
  /-- the MLP's gate weights -/
  wg : Fin 1024 → Fin 2816 → EReal
  /-- the MLP's up weights -/
  wu : Fin 1024 → Fin 2816 → EReal
  /-- the convolution's taps -/
  cw : Fin 3 → Fin 2816 → EReal
  /-- the convolution's bias -/
  cb : Fin 2816 → EReal
  /-- the MLP's down weights -/
  wd : Fin 2816 → Fin 1024 → EReal
  /-- gain of the second norm -/
  g2 : Fin 1024 → EReal
  /-- bias of the second norm -/
  b2 : Fin 1024 → EReal

/-- The batch a token belongs to. -/
def bat (n : Fin 32768) : Fin 4 := ⟨n.val / 8192, by have := n.isLt; omega⟩

/-- A token's place in its sequence. -/
def pos (n : Fin 32768) : Fin 8192 := ⟨n.val % 8192, Nat.mod_lt _ (by decide)⟩

/-- The token at place `s` of batch `b`. -/
def tok (b : Fin 4) (s : Fin 8192) : Fin 32768 := ⟨b.val * 8192 + s.val, by omega⟩

theorem bat_tok (b : Fin 4) (s : Fin 8192) : bat (tok b s) = b := by
  apply Fin.ext
  show (b.val * 8192 + s.val) / 8192 = b.val
  omega

theorem pos_tok (b : Fin 4) (s : Fin 8192) : pos (tok b s) = s := by
  apply Fin.ext
  show (b.val * 8192 + s.val) % 8192 = s.val
  omega

/-- A token is the one at its place in its batch. -/
theorem tok_eq (n : Fin 32768) (h : n.val / 8192 < 4) (h' : n.val % 8192 < 8192) :
    tok ⟨n.val / 8192, h⟩ ⟨n.val % 8192, h'⟩ = n := by
  apply Fin.ext
  show n.val / 8192 * 8192 + n.val % 8192 = n.val
  omega

variable (A : Args)

/-- The merged mixers at a token. -/
def merged (n : Fin 32768) (k : Fin 1024) : EReal :=
  A.gates n ⟨k.val, by omega⟩ * A.ya n k + A.gates n ⟨1024 + k.val, by omega⟩ * A.yb n k

/-- The first residual. -/
def res1 (n : Fin 32768) (j : Fin 1024) : EReal :=
  alpha * A.x n j + (1 + A.gt1 (bat n) j) * ∑ k, merged A n k * A.wo k j

/-- The first norm. -/
def x1 (n : Fin 32768) (j : Fin 1024) : EReal := lnorm (res1 A n) A.g1 A.b1 j

/-- The modulated row the MLP reads. -/
def hid (n : Fin 32768) (j : Fin 1024) : EReal := x1 A n j * (1 + A.sc (bat n) j) + A.sh (bat n) j

/-- The gate path before its convolution. -/
def gate (n : Fin 32768) (f : Fin 2816) : EReal := ∑ k, hid A n k * A.wg k f

/-- The gate path `d` tokens earlier, zero before the sequence's start. -/
def back (d : ℕ) (n : Fin 32768) (f : Fin 2816) : EReal :=
  if d ≤ n.val % 8192 then gate A ⟨n.val - d, by omega⟩ f else 0

/-- The gate path earlier in the same sequence. -/
theorem back_of_le {d : ℕ} {b : Fin 4} {s : Fin 8192} (h : d ≤ s.val) (f : Fin 2816) :
    back A d (tok b s) f = gate A (tok b ⟨s.val - d, by omega⟩) f := by
  have e : (tok b s).val = b.val * 8192 + s.val := rfl
  unfold back
  rw [if_pos (by omega)]
  congr 1
  apply Fin.ext
  show (tok b s).val - d = b.val * 8192 + (s.val - d)
  omega

/-- The gate path before the sequence's start. -/
theorem back_of_lt {d : ℕ} {b : Fin 4} {s : Fin 8192} (h : s.val < d) (f : Fin 2816) : back A d (tok b s) f = 0 := by
  have e : (tok b s).val = b.val * 8192 + s.val := rfl
  unfold back
  rw [if_neg (by omega)]

/-- The convolution's value. -/
def conv (n : Fin 32768) (f : Fin 2816) : EReal :=
  A.cw 2 f * gate A n f + A.cw 1 f * back A 1 n f + A.cw 0 f * back A 2 n f + A.cb f

/-- The up path. -/
def up (n : Fin 32768) (f : Fin 2816) : EReal := ∑ k, hid A n k * A.wu k f

/-- The second residual, over the activation `act` of the gate path. -/
def res2 (act : EReal → EReal) (n : Fin 32768) (j : Fin 1024) : EReal :=
  alpha * x1 A n j + (1 + A.gt2 (bat n) j) * ∑ f, act (conv A n f) * up A n f * A.wd f j

/-- The tail's result. -/
def out (act : EReal → EReal) (n : Fin 32768) (j : Fin 1024) : EReal := lnorm (res2 A act n) A.g2 A.b2 j

/-- Two activations that agree on every convolved value give the same result. -/
theorem out_congr {act act' : EReal → EReal} (h : ∀ n f, act (conv A n f) = act' (conv A n f)) :
    out A act = out A act' := by
  funext n j
  unfold out
  have e : res2 A act n = res2 A act' n := by
    funext j
    simp only [res2, h]
  rw [e]

end Cert.TailSpec
-- ==== Proof.Gelu.lean ====
module

public import Idealize.ShloMosaic.PureOps.Ideal.Laws

@[expose] public section

/-! # The two forms of the tanh GeLU

One multiplies the cube out and folds the factor one half in; the other follows the textbook formula. They agree at every
finite number. -/

noncomputable section

namespace Cert.Gelu

open Idealize.ShloMosaic

/-- The textbook form. -/
def plain (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- The folded form, over the constant `c` of its cubic term. -/
def folded (c x : EReal) : EReal :=
  Ideal.ofBits .f32 0x3F000000#32 * x * Ideal.tanh (x * (Ideal.ofBits .f32 0x3F4C422A#32 + c * (x * x)))
    + Ideal.ofBits .f32 0x3F000000#32 * x

theorem half_val : Ideal.ofBits .f32 0x3F000000#32 = ((1 / 2 : ℝ) : EReal) := by
  simp [Ideal.ofBits, Ideal.ieee, -EReal.coe_mul]; norm_num

theorem one_val : Ideal.ofBits .f32 0x3F800000#32 = ((1 : ℝ) : EReal) := by
  simp [Ideal.ofBits, Ideal.ieee, -EReal.coe_mul]; norm_num

theorem scale_val : Ideal.ofBits .f32 0x3F4C422A#32 = ((6693141 / 8388608 : ℝ) : EReal) := by
  simp [Ideal.ofBits, Ideal.ieee, -EReal.coe_mul]; norm_num

theorem cube_val : Ideal.ofBits .f32 0x3D372713#32 = ((12003091 / 268435456 : ℝ) : EReal) := by
  simp [Ideal.ofBits, Ideal.ieee, -EReal.coe_mul]; norm_num

/-- At a finite number, with the cubic constant the product of the textbook's two, the two forms agree. -/
theorem folded_eq_plain {c x : EReal} (hc : c = ((80338380498831 / 2251799813685248 : ℝ) : EReal)) (h₁ : x ≠ ⊥)
    (h₂ : x ≠ ⊤) : folded c x = plain x := by
  lift x to ℝ using ⟨h₂, h₁⟩
  have ht : ∀ r : ℝ, Ideal.tanh (r : EReal) = ((Real.tanh r : ℝ) : EReal) := fun _ => rfl
  unfold folded plain
  rw [hc, half_val, one_val, scale_val, cube_val]
  norm_cast
  rw [ht, ht]
  norm_cast
  have e : x * (6693141 / 8388608 + 80338380498831 / 2251799813685248 * (x * x))
      = 6693141 / 8388608 * (x + 12003091 / 268435456 * (x * x * x)) := by ring
  rw [e]
  ring

end Cert.Gelu
-- ==== Proof.TailPay.lean ====
module

public import proofs.«01_k».proof.Proof.TailSpec
public import proofs.«01_k».proof.Proof.Gelu
public import proofs.«01_k».proof.Proof.Gen.TailIdeal.Skeleton

@[expose] public section

/-! # What each stored value of the tail's body is, element by element -/

noncomputable section

namespace Cert.TailIdeal.Pay

open Cert.TailIdeal Cert.TailIdeal.Gen Idealize.ShloMosaic Cert.TailSpec

set_option maxRecDepth 16384

/-- The first residual from the blocks it reads. -/
theorem pay3_at (x : FVec Ideal S512x1024 .bf16) (y : FVec Ideal S512x1024 .bf16) (x' : FVec Ideal S512x1024 .bf16)
    (y' : FVec Ideal S512x1024 .bf16) (w : FVec Ideal S1024x1024 .bf16) (v : FVec Ideal S512x1024 .f32)
    (gt : FVec Ideal S1x1x1024 .f32) (r : Fin 512) (j : Fin 1024) :
    k0_pay3 (F := Ideal) x y x' y' w v gt (ix2 r j) = alpha * v (ix2 r j) + (1 + gt (ix3 0 0 j))
      * ∑ k, (x (ix2 r k) * y (ix2 r k) + x' (ix2 r k) * y' (ix2 r k)) * w (ix2 k j) := by
  pointwise [k0_pay3]

/-- The first norm of a row of the first residual. -/
theorem pay6_at (v : FVec Ideal S512x1024 .f32) (g b : FVec Ideal S1x1024 .f32) (r : Fin 512) (j : Fin 1024) :
    k0_pay6 (F := Ideal) v g b (ix2 r j) = lnorm (fun k => v (ix2 r k)) (fun k => g (ix2 0 k)) (fun k => b (ix2 0 k)) j := by
  pointwise [k0_pay6]
  rfl

/-- The modulated row. -/
theorem pay7_at (v : FVec Ideal S512x1024 .f32) (g b : FVec Ideal S1x1024 .f32) (sc sh : FVec Ideal S1x1x1024 .f32)
    (r : Fin 512) (j : Fin 1024) :
    k0_pay7 (F := Ideal) v g b sc sh (ix2 r j)
      = lnorm (fun k => v (ix2 r k)) (fun k => g (ix2 0 k)) (fun k => b (ix2 0 k)) j * (1 + sc (ix3 0 0 j))
        + sh (ix3 0 0 j) := by
  rw [← pay6_at]
  pointwise [k0_pay7]

/-- The gate path: the modulated row times the weights. -/
theorem pay8_at (v : FVec Ideal S512x1024 .f32) (g b : FVec Ideal S1x1024 .f32) (sc sh : FVec Ideal S1x1x1024 .f32)
    (w : FVec Ideal S1024x2816 .bf16) (r : Fin 512) (f : Fin 2816) :
    k0_pay8 (F := Ideal) v g b sc sh w (ix2 r f)
      = ∑ j, k0_pay7 (F := Ideal) v g b sc sh (ix2 r j) * w (ix2 j f) := by
  pointwise [k0_pay8]

/-- The up path: the modulated row times the weights. -/
theorem pay9_at (v : FVec Ideal S512x1024 .f32) (g b : FVec Ideal S1x1024 .f32) (sc sh : FVec Ideal S1x1x1024 .f32)
    (w : FVec Ideal S1024x2816 .bf16) (r : Fin 512) (f : Fin 2816) :
    k0_pay9 (F := Ideal) v g b sc sh w (ix2 r f)
      = ∑ j, k0_pay7 (F := Ideal) v g b sc sh (ix2 r j) * w (ix2 j f) := by
  pointwise [k0_pay9]

/-- What is carried to the next tile: the gate path's last eight rows. -/
theorem pay10_at (g : FVec Ideal S512x2816 .f32) (q : Fin 8) (f : Fin 2816) :
    k0_pay10 (F := Ideal) g (ix2 q f) = g (ix2 ⟨504 + q.val, by omega⟩ f) := by
  pointwise [k0_pay10]

/-- The carried rows at a sequence's start. -/
theorem pay2_at (q : Fin 8) (f : Fin 2816) : k0_pay2 (F := Ideal) (ix2 q f) = 0 := by
  pointwise [k0_pay2]

/-- The gate path `d` rows earlier, the carried rows before the tile's first. -/
def earlier (d : ℕ) (h : FVec Ideal S8x2816 .f32) (g : FVec Ideal S512x2816 .f32) (r : Fin 512) (f : Fin 2816) : EReal :=
  if hd : r.val < d then h (ix2 ⟨(8 + r.val - d) % 8, Nat.mod_lt _ (by decide)⟩ f) else g (ix2 ⟨r.val - d, by omega⟩ f)

/-- The convolution's value from the tile's gate path and the carried rows. -/
def convAt (g : FVec Ideal S512x2816 .f32) (h : FVec Ideal S8x2816 .f32) (cw : FVec Ideal S3x2816 .f32)
    (cb : FVec Ideal S1x2816 .f32) (r : Fin 512) (f : Fin 2816) : EReal :=
  cw (ix2 2 f) * g (ix2 r f) + cw (ix2 1 f) * earlier 1 h g r f + cw (ix2 0 f) * earlier 2 h g r f + cb (ix2 0 f)

/-- The rotated concatenation of the carried rows and the tile, read past its first eight rows. -/
theorem rotated_eq (d : ℕ) (hd : d ≤ 8) (h : FVec Ideal S8x2816 .f32) (g : FVec Ideal S512x2816 .f32) (r : Fin 512)
    (f : Fin 2816) (p : (8 + r.val + 520 - d) % 520 < 8 → (8 + r.val + 520 - d) % 520 < 8)
    (p' : ¬ (8 + r.val + 520 - d) % 520 < 8 → (8 + r.val + 520 - d) % 520 - 8 < 512) :
    (if c : (8 + r.val + 520 - d) % 520 < 8 then h (ix2 ⟨(8 + r.val + 520 - d) % 520, p c⟩ f)
      else g (ix2 ⟨(8 + r.val + 520 - d) % 520 - 8, p' c⟩ f)) = earlier d h g r f := by
  have hr := r.isLt
  unfold earlier
  by_cases c : r.val < d
  · rw [dif_pos (by omega), dif_pos c]
    congr 2
    apply Fin.ext
    show (8 + r.val + 520 - d) % 520 = (8 + r.val - d) % 8
    omega
  · rw [dif_neg (by omega), dif_neg c]
    congr 2
    apply Fin.ext
    show (8 + r.val + 520 - d) % 520 - 8 = r.val - d
    omega

/-- The MLP's down projection. -/
theorem pay11_at (g u : FVec Ideal S512x2816 .f32) (h : FVec Ideal S8x2816 .f32) (cw : FVec Ideal S3x2816 .f32)
    (cb : FVec Ideal S1x2816 .f32) (w : FVec Ideal S2816x1024 .bf16) (r : Fin 512) (j : Fin 1024) :
    k0_pay11 (F := Ideal) g u h cw cb w (ix2 r j)
      = ∑ f, Gelu.folded (Named.named κ "gelu_cubic" 0x3D122279#32 : Ideal .f32) (convAt g h cw cb r f) * u (ix2 r f)
        * w (ix2 f j) := by
  pointwise [k0_pay11]
  refine Finset.sum_congr rfl fun f _ => ?_
  rw [rotated_eq 1 (by decide), rotated_eq 2 (by decide)]
  rfl

/-- The residual's half of the second sum. -/
theorem pay12_at (v : FVec Ideal S512x1024 .f32) (r : Fin 512) (j : Fin 1024) :
    k0_pay12 (F := Ideal) v (ix2 r j) = alpha * v (ix2 r j) := by
  pointwise [k0_pay12]

/-- The second norm of a row of the second residual. -/
theorem pay1_at (y v : FVec Ideal S512x1024 .f32) (gt : FVec Ideal S1x1x1024 .f32) (g b : FVec Ideal S1x1024 .f32)
    (r : Fin 512) (j : Fin 1024) :
    k0_pay1 (F := Ideal) y v gt g b (ix2 r j)
      = lnorm (fun k => v (ix2 r k) + (1 + gt (ix3 0 0 k)) * y (ix2 r k)) (fun k => g (ix2 0 k)) (fun k => b (ix2 0 k)) j := by
  pointwise [k0_pay1]
  rfl

end Cert.TailIdeal.Pay
-- ==== Proof.TailTile.lean ====
module

public import proofs.«01_k».proof.Proof.TailPay

@[expose] public section

/-! # What one grid point of the tail computes from the blocks it reads

A grid point `T` holds the 512 tokens from `512·T` on. The rows carried from the point before are the last eight of its
gate path, or zero at a sequence's start. -/

noncomputable section

namespace Cert.TailIdeal.Tile

open Cert.TailIdeal Cert.TailIdeal.Gen Cert.TailIdeal.Pay Idealize.ShloMosaic Cert.TailSpec

set_option maxRecDepth 16384

/-- The blocks a grid point reads. -/
structure Blocks where
  /-- the input's tile -/
  x : FVec Ideal S512x1024 .f32
  /-- the first mixer's tile -/
  ya : FVec Ideal S512x1024 .bf16
  /-- the second mixer's tile -/
  yb : FVec Ideal S512x1024 .bf16
  /-- the first gate's tile -/
  ga : FVec Ideal S512x1024 .bf16
  /-- the second gate's tile -/
  gb : FVec Ideal S512x1024 .bf16
  /-- the first residual's gate -/
  gt1 : FVec Ideal S1x1x1024 .f32
  /-- the output projection -/
  wo : FVec Ideal S1024x1024 .bf16
  /-- the first norm's gain -/
  g1 : FVec Ideal S1x1024 .f32
  /-- the first norm's bias -/
  b1 : FVec Ideal S1x1024 .f32
  /-- the modulation's scale -/
  sc : FVec Ideal S1x1x1024 .f32
  /-- the modulation's shift -/
  sh : FVec Ideal S1x1x1024 .f32
  /-- the second residual's gate -/
  gt2 : FVec Ideal S1x1x1024 .f32
  /-- the gate weights -/
  wg : FVec Ideal S1024x2816 .bf16
  /-- the up weights -/
  wu : FVec Ideal S1024x2816 .bf16
  /-- the taps -/
  cw : FVec Ideal S3x2816 .f32
  /-- the convolution's bias -/
  cb : FVec Ideal S1x2816 .f32
  /-- the down weights -/
  wd : FVec Ideal S2816x1024 .bf16
  /-- the second norm's gain -/
  g2 : FVec Ideal S1x1024 .f32
  /-- the second norm's bias -/
  b2 : FVec Ideal S1x1024 .f32

variable (B : Blocks)

/-- The first residual's tile. -/
def resT : FVec Ideal S512x1024 .f32 := k0_pay3 B.ga B.ya B.gb B.yb B.wo B.x B.gt1

/-- The gate path's tile. -/
def gateT : FVec Ideal S512x2816 .f32 := k0_pay8 (resT B) (k0_pay4 B.g1) (k0_pay5 B.b1) B.sc B.sh B.wg

/-- The up path's tile. -/
def upT : FVec Ideal S512x2816 .f32 := k0_pay9 (resT B) (k0_pay4 B.g1) (k0_pay5 B.b1) B.sc B.sh B.wu

/-- The output tile, over the carried rows. -/
def outT (h : FVec Ideal S8x2816 .f32) : FVec Ideal S512x1024 .f32 :=
  k0_pay1 (k0_pay11 (gateT B) (upT B) h B.cw B.cb B.wd) (k0_pay12 (k0_pay6 (resT B) (k0_pay4 B.g1) (k0_pay5 B.b1)))
    B.gt2 B.g2 B.b2

/-- Token `r` of tile `T`. -/
def row (T : Fin 64) (r : Fin 512) : Fin 32768 := ⟨512 * T.val + r.val, by omega⟩

/-- The batch of a tile. -/
def batT (T : Fin 64) : Fin 4 := ⟨T.val / 16, by omega⟩

theorem bat_row (T : Fin 64) (r : Fin 512) : bat (row T r) = batT T := by
  apply Fin.ext
  show (512 * T.val + r.val) / 8192 = T.val / 16
  omega

/-- The blocks are tile `T` of the arguments. -/
structure Reads (A : Args) (T : Fin 64) : Prop where
  x : ∀ r k, B.x (ix2 r k) = A.x (row T r) k
  ya : ∀ r k, B.ya (ix2 r k) = A.ya (row T r) k
  yb : ∀ r k, B.yb (ix2 r k) = A.yb (row T r) k
  ga : ∀ r (k : Fin 1024), B.ga (ix2 r k) = A.gates (row T r) ⟨k.val, by omega⟩
  gb : ∀ r (k : Fin 1024), B.gb (ix2 r k) = A.gates (row T r) ⟨1024 + k.val, by omega⟩
  gt1 : ∀ k, B.gt1 (ix3 0 0 k) = A.gt1 (batT T) k
  wo : ∀ k j, B.wo (ix2 k j) = A.wo k j
  g1 : ∀ k, B.g1 (ix2 0 k) = A.g1 k
  b1 : ∀ k, B.b1 (ix2 0 k) = A.b1 k
  sc : ∀ k, B.sc (ix3 0 0 k) = A.sc (batT T) k
  sh : ∀ k, B.sh (ix3 0 0 k) = A.sh (batT T) k
  gt2 : ∀ k, B.gt2 (ix3 0 0 k) = A.gt2 (batT T) k
  wg : ∀ k f, B.wg (ix2 k f) = A.wg k f
  wu : ∀ k f, B.wu (ix2 k f) = A.wu k f
  cw : ∀ i f, B.cw (ix2 i f) = A.cw i f
  cb : ∀ f, B.cb (ix2 0 f) = A.cb f
  wd : ∀ f j, B.wd (ix2 f j) = A.wd f j
  g2 : ∀ k, B.g2 (ix2 0 k) = A.g2 k
  b2 : ∀ k, B.b2 (ix2 0 k) = A.b2 k

variable {B} {A : Args} {T : Fin 64} (R : Reads B A T)
include R

theorem gain_at (k : Fin 1024) : k0_pay4 (F := Ideal) B.g1 (ix2 0 k) = A.g1 k := by
  rw [← R.g1]
  pointwise [k0_pay4]

theorem bias_at (k : Fin 1024) : k0_pay5 (F := Ideal) B.b1 (ix2 0 k) = A.b1 k := by
  rw [← R.b1]
  pointwise [k0_pay5]

theorem res_at (r : Fin 512) (j : Fin 1024) : resT B (ix2 r j) = res1 A (row T r) j := by
  unfold resT
  rw [pay3_at]
  simp only [R.x, R.ya, R.yb, R.ga, R.gb, R.gt1, R.wo]
  unfold res1
  rw [bat_row]
  rfl

theorem norm_at (r : Fin 512) (j : Fin 1024) :
    k0_pay6 (resT B) (k0_pay4 B.g1) (k0_pay5 B.b1) (ix2 r j) = x1 A (row T r) j := by
  rw [pay6_at]
  simp only [res_at R, gain_at R, bias_at R]
  rfl

theorem hid_at (r : Fin 512) (j : Fin 1024) :
    k0_pay7 (resT B) (k0_pay4 B.g1) (k0_pay5 B.b1) B.sc B.sh (ix2 r j) = hid A (row T r) j := by
  rw [pay7_at]
  simp only [res_at R, gain_at R, bias_at R, R.sc, R.sh]
  unfold hid
  rw [bat_row]
  rfl

theorem gate_at (r : Fin 512) (f : Fin 2816) : gateT B (ix2 r f) = gate A (row T r) f := by
  unfold gateT
  rw [pay8_at]
  simp only [hid_at R, R.wg]
  rfl

theorem up_at (r : Fin 512) (f : Fin 2816) : upT B (ix2 r f) = up A (row T r) f := by
  unfold upT
  rw [pay9_at]
  simp only [hid_at R, R.wu]
  rfl

/-- The carried rows are the eight before the tile's first, or zero at a sequence's start. -/
def Carried (A : Args) (T : Fin 64) (h : FVec Ideal S8x2816 .f32) : Prop :=
  (T.val % 16 = 0 → ∀ q f, h (ix2 q f) = 0)
    ∧ ∀ hT : T.val % 16 ≠ 0, ∀ (q : Fin 8) f, h (ix2 q f) = gate A ⟨512 * T.val - 8 + q.val, by omega⟩ f

variable {h : FVec Ideal S8x2816 .f32} (H : Carried A T h)
include H

theorem earlier_at (d : ℕ) (hd : d ≤ 8) (r : Fin 512) (f : Fin 2816) :
    earlier d h (gateT B) r f = back A d (row T r) f := by
  have e : (row T r).val = 512 * T.val + r.val := rfl
  have hr := r.isLt
  unfold earlier back
  by_cases c : r.val < d
  · rw [dif_pos c]
    by_cases hT : T.val % 16 = 0
    · rw [H.1 hT, if_neg (by omega)]
    · rw [H.2 hT, if_pos (by omega)]
      congr 1
      apply Fin.ext
      show 512 * T.val - 8 + (8 + r.val - d) % 8 = (row T r).val - d
      omega
  · rw [dif_neg c, gate_at R, if_pos (by omega)]
    congr 1
    apply Fin.ext
    show 512 * T.val + (r.val - d) = (row T r).val - d
    omega

theorem conv_at (r : Fin 512) (f : Fin 2816) : convAt (gateT B) h B.cw B.cb r f = conv A (row T r) f := by
  unfold convAt conv
  rw [earlier_at R H 1 (by decide), earlier_at R H 2 (by decide), gate_at R, R.cw, R.cw, R.cw, R.cb]

/-- The output tile is the tail's result at the tile's tokens. -/
theorem out_at (r : Fin 512) (j : Fin 1024) :
    outT B h (ix2 r j) = out A (Gelu.folded (Named.named κ "gelu_cubic" 0x3D122279#32 : Ideal .f32)) (row T r) j := by
  unfold outT
  rw [pay1_at]
  simp only [pay11_at, pay12_at, norm_at R, conv_at R H, up_at R, R.wd, R.gt2, R.g2, R.b2]
  unfold out
  congr 1
  funext k
  unfold res2
  rw [bat_row]

omit H in
/-- What the tile leaves for the next one. -/
theorem carried_at (T' : Fin 64) (hT : T'.val = T.val + 1) (hT' : T'.val % 16 ≠ 0) : Carried A T' (k0_pay10 (gateT B)) := by
  refine ⟨fun c => absurd c hT', fun _ q f => ?_⟩
  rw [pay10_at, gate_at R]
  congr 1
  apply Fin.ext
  show 512 * T.val + (504 + q.val) = 512 * T'.val - 8 + q.val
  omega

omit R H in
/-- The rows carried into a sequence's first tile. -/
theorem carried_zero (T : Fin 64) (hT : T.val % 16 = 0) : Carried A T (k0_pay2 (F := Ideal)) :=
  ⟨fun _ q f => pay2_at q f, fun c => absurd hT c⟩

end Cert.TailIdeal.Tile
-- ==== Proof.TailBlock.lean ====
module

public import proofs.«01_k».proof.Proof.TailTile
public import proofs.«01_k».proof.Proof.Gen.TailIdeal.Frame
public import Idealize.ShloMosaic.Lib.Pipeline.ValueKit
public import Idealize.ShloMosaic.Lib.Pipeline.ReadBack

@[expose] public section

/-! # The tail's blocks are tiles of its arguments, and its result array -/

noncomputable section

namespace Cert.TailIdeal.Block

open Cert.TailIdeal Cert.TailIdeal.Gen Cert.TailIdeal.Tile Idealize.ShloMosaic Idealize.ShloMosaic.TcCoe Idealize.SL.Sem
open Idealize.ShloMosaic.Pipeline (Dat)
open Cert.TailSpec (Args)

set_option maxRecDepth 16384

variable (m : (ℓ : Loc nD τ sig) → Buf (Elt Ideal) ℓ)

/-- The blocks grid point `t` reads. -/
def blocks (c : Dev nD) (t : Fin cfg0.N) : Blocks where
  x := iblk m c 0 t
  ya := iblk m c 1 t
  yb := iblk m c 2 t
  ga := iblk m c 3 t
  gb := iblk m c 4 t
  gt1 := iblk m c 5 t
  wo := iblk m c 6 t
  g1 := iblk m c 7 t
  b1 := iblk m c 8 t
  sc := iblk m c 9 t
  sh := iblk m c 10 t
  gt2 := iblk m c 11 t
  wg := iblk m c 12 t
  wu := iblk m c 13 t
  cw := iblk m c 14 t
  cb := iblk m c 15 t
  wd := iblk m c 16 t
  g2 := iblk m c 17 t
  b2 := iblk m c 18 t

set_option maxHeartbeats 1600000 in
/-- What a grid point leaves when a sequence starts at it. -/
theorem left_A (c : Dev nD) (t : Fin cfg0.N) (h0 : t.val % 16 = 0) :
    outsAt0 m c t.val t.isLt = (outT (blocks m c t) (k0_pay2 (F := Ideal)), k0_pay10 (gateT (blocks m c t))) := by
  rw [outsAt0_A m c t h0]
  refine Prod.ext ?_ ?_
  · frame_out
    rfl
  · frame_out
    rfl

set_option maxHeartbeats 1600000 in
/-- What a grid point leaves inside a sequence, over the rows the point before left. -/
theorem left_B (c : Dev nD) (t : Fin cfg0.N) (h0 : ¬t.val % 16 = 0) :
    outsAt0 m c t.val t.isLt = (outT (blocks m c t) (outsAt0 m c (t.val - 1) (Nat.lt_of_le_of_lt (Nat.sub_le _ _) t.isLt)).2,
      k0_pay10 (gateT (blocks m c t))) := by
  rw [outsAt0_B m c t h0]
  refine Prod.ext ?_ ?_
  · frame_out
    rw [read_unread_whole]
    rfl
  · frame_out
    rfl

end Cert.TailIdeal.Block
-- ==== Proof.TailReads.lean ====
module

public import proofs.«01_k».proof.Proof.TailBlock

@[expose] public section

/-! # The blocks a grid point of the tail reads are its tile of the arguments -/

noncomputable section

namespace Cert.TailIdeal.Block

open Cert.TailIdeal Cert.TailIdeal.Gen Cert.TailIdeal.Tile Idealize.ShloMosaic Idealize.ShloMosaic.TcCoe Idealize.SL.Sem
open Idealize.ShloMosaic.Pipeline (Dat)
open Cert.TailSpec (Args bat pos)

set_option maxRecDepth 16384

variable (m : (ℓ : Loc nD τ sig) → Buf (Elt Ideal) ℓ)

/-- The tail's arguments as launched. -/
def args (c : Dev nD) : Args where
  x n k := (show FVec Ideal S4x8192x1024 .f32 from m ((c : Thread nD τ).loc main_arg0)) (ix3 (bat n) (pos n) k)
  ya n k := (show FVec Ideal S32768x1024 .bf16 from m ((c : Thread nD τ).loc main_arg1)) (ix2 n k)
  yb n k := (show FVec Ideal S32768x1024 .bf16 from m ((c : Thread nD τ).loc main_arg2)) (ix2 n k)
  gates n k := (show FVec Ideal S32768x2048 .bf16 from m ((c : Thread nD τ).loc main_arg3)) (ix2 n k)
  gt1 b k := (show FVec Ideal S4x1x1024 .f32 from m ((c : Thread nD τ).loc main_arg4)) (ix3 b 0 k)
  wo k j := (show FVec Ideal S1024x1024 .f32 from m ((c : Thread nD τ).loc main_arg5)) (ix2 k j)
  g1 k := (show FVec Ideal S1024 .f32 from m ((c : Thread nD τ).loc main_arg6)) (ix1 k)
  b1 k := (show FVec Ideal S1024 .f32 from m ((c : Thread nD τ).loc main_arg7)) (ix1 k)
  sc b k := (show FVec Ideal S4x1x1024 .f32 from m ((c : Thread nD τ).loc main_arg8)) (ix3 b 0 k)
  sh b k := (show FVec Ideal S4x1x1024 .f32 from m ((c : Thread nD τ).loc main_arg9)) (ix3 b 0 k)
  gt2 b k := (show FVec Ideal S4x1x1024 .f32 from m ((c : Thread nD τ).loc main_arg10)) (ix3 b 0 k)
  wg k f := (show FVec Ideal S1024x2816 .f32 from m ((c : Thread nD τ).loc main_arg11)) (ix2 k f)
  wu k f := (show FVec Ideal S1024x2816 .f32 from m ((c : Thread nD τ).loc main_arg12)) (ix2 k f)
  cw i f := (show FVec Ideal S3x2816 .f32 from m ((c : Thread nD τ).loc main_arg13)) (ix2 i f)
  cb f := (show FVec Ideal S2816 .f32 from m ((c : Thread nD τ).loc main_arg14)) (ix1 f)
  wd f j := (show FVec Ideal S2816x1024 .f32 from m ((c : Thread nD τ).loc main_arg15)) (ix2 f j)
  g2 k := (show FVec Ideal S1024 .f32 from m ((c : Thread nD τ).loc main_arg16)) (ix1 k)
  b2 k := (show FVec Ideal S1024 .f32 from m ((c : Thread nD τ).loc main_arg17)) (ix1 k)

/-- Every window's block index at a grid point. -/
theorem idx : ∀ t : Fin cfg0.N,
    win0_0.index t = ![t.val, 0] ∧ win0_1.index t = ![t.val, 0] ∧ win0_2.index t = ![t.val, 0]
    ∧ win0_3.index t = ![t.val, 0] ∧ win0_4.index t = ![t.val, 1] ∧ win0_5.index t = ![t.val / 16, 0, 0]
    ∧ win0_6.index t = ![0, 0] ∧ win0_7.index t = ![0, 0] ∧ win0_8.index t = ![0, 0]
    ∧ win0_9.index t = ![t.val / 16, 0, 0] ∧ win0_10.index t = ![t.val / 16, 0, 0] ∧ win0_11.index t = ![t.val / 16, 0, 0]
    ∧ win0_12.index t = ![0, 0] ∧ win0_13.index t = ![0, 0] ∧ win0_14.index t = ![0, 0] ∧ win0_15.index t = ![0, 0]
    ∧ win0_16.index t = ![0, 0] ∧ win0_17.index t = ![0, 0] ∧ win0_18.index t = ![0, 0] ∧ win0_19.index t = ![t.val, 0] :=
  (by decide +kernel : ∀ t : Fin grid0.N, _)

set_option maxHeartbeats 1600000 in
/-- The blocks of a grid point are its tile of the arguments. -/
theorem reads (c : Dev nD) (t : Fin cfg0.N) : Reads (blocks m c t) (args m c) ⟨t.val, t.isLt⟩ where
  x r k := by
    show (show FVec Ideal S512x1024 .f32 from iblk m c 0 t) (ix2 r k) = (show FVec Ideal S4x8192x1024 .f32 from m ((c : Thread nD τ).loc main_arg0)) _
    blk_point [iblk, V, (idx t).1]
    all_goals (simp only [row, bat, pos]; omega)
  ya r k := by
    show (show FVec Ideal S512x1024 .bf16 from iblk m c 1 t) (ix2 r k) = (show FVec Ideal S32768x1024 .bf16 from m ((c : Thread nD τ).loc main_arg1)) _
    blk_point [iblk, V, (idx t).2.1]
    all_goals (simp only [row]; omega)
  yb r k := by
    show (show FVec Ideal S512x1024 .bf16 from iblk m c 2 t) (ix2 r k) = (show FVec Ideal S32768x1024 .bf16 from m ((c : Thread nD τ).loc main_arg2)) _
    blk_point [iblk, V, (idx t).2.2.1]
    all_goals (simp only [row]; omega)
  ga r k := by
    show (show FVec Ideal S512x1024 .bf16 from iblk m c 3 t) (ix2 r k) = (show FVec Ideal S32768x2048 .bf16 from m ((c : Thread nD τ).loc main_arg3)) _
    blk_point [iblk, V, (idx t).2.2.2.1]
    all_goals (simp only [row]; omega)
  gb r k := by
    show (show FVec Ideal S512x1024 .bf16 from iblk m c 4 t) (ix2 r k) = (show FVec Ideal S32768x2048 .bf16 from m ((c : Thread nD τ).loc main_arg3)) _
    blk_point [iblk, V, (idx t).2.2.2.2.1]
    all_goals (simp only [row]; omega)
  gt1 k := by
    show (show FVec Ideal S1x1x1024 .f32 from iblk m c 5 t) (ix3 0 0 k) = (show FVec Ideal S4x1x1024 .f32 from m ((c : Thread nD τ).loc main_arg4)) _
    blk_point [iblk, V, (idx t).2.2.2.2.2.1]
    all_goals (simp only [batT]; omega)
  wo k j := by
    show (show FVec Ideal S1024x1024 .bf16 from iblk m c 6 t) (ix2 k j) = (show FVec Ideal S1024x1024 .f32 from m ((c : Thread nD τ).loc main_arg5)) _
    blk_point [iblk, V, (idx t).2.2.2.2.2.2.1]
  g1 k := by
    show (show FVec Ideal S1x1024 .f32 from iblk m c 7 t) (ix2 0 k) = (show FVec Ideal S1024 .f32 from m ((c : Thread nD τ).loc main_arg6)) _
    blk_point [iblk, V, (idx t).2.2.2.2.2.2.2.1]
  b1 k := by
    show (show FVec Ideal S1x1024 .f32 from iblk m c 8 t) (ix2 0 k) = (show FVec Ideal S1024 .f32 from m ((c : Thread nD τ).loc main_arg7)) _
    blk_point [iblk, V, (idx t).2.2.2.2.2.2.2.2.1]
  sc k := by
    show (show FVec Ideal S1x1x1024 .f32 from iblk m c 9 t) (ix3 0 0 k) = (show FVec Ideal S4x1x1024 .f32 from m ((c : Thread nD τ).loc main_arg8)) _
    blk_point [iblk, V, (idx t).2.2.2.2.2.2.2.2.2.1]
    all_goals (simp only [batT]; omega)
  sh k := by
    show (show FVec Ideal S1x1x1024 .f32 from iblk m c 10 t) (ix3 0 0 k) = (show FVec Ideal S4x1x1024 .f32 from m ((c : Thread nD τ).loc main_arg9)) _
    blk_point [iblk, V, (idx t).2.2.2.2.2.2.2.2.2.2.1]
    all_goals (simp only [batT]; omega)
  gt2 k := by
    show (show FVec Ideal S1x1x1024 .f32 from iblk m c 11 t) (ix3 0 0 k) = (show FVec Ideal S4x1x1024 .f32 from m ((c : Thread nD τ).loc main_arg10)) _
    blk_point [iblk, V, (idx t).2.2.2.2.2.2.2.2.2.2.2.1]
    all_goals (simp only [batT]; omega)
  wg k f := by
    show (show FVec Ideal S1024x2816 .bf16 from iblk m c 12 t) (ix2 k f) = (show FVec Ideal S1024x2816 .f32 from m ((c : Thread nD τ).loc main_arg11)) _
    blk_point [iblk, V, (idx t).2.2.2.2.2.2.2.2.2.2.2.2.1]
  wu k f := by
    show (show FVec Ideal S1024x2816 .bf16 from iblk m c 13 t) (ix2 k f) = (show FVec Ideal S1024x2816 .f32 from m ((c : Thread nD τ).loc main_arg12)) _
    blk_point [iblk, V, (idx t).2.2.2.2.2.2.2.2.2.2.2.2.2.1]
  cw i f := by
    show (show FVec Ideal S3x2816 .f32 from iblk m c 14 t) (ix2 i f) = (show FVec Ideal S3x2816 .f32 from m ((c : Thread nD τ).loc main_arg13)) _
    blk_point [iblk, V, (idx t).2.2.2.2.2.2.2.2.2.2.2.2.2.2.1]
  cb f := by
    show (show FVec Ideal S1x2816 .f32 from iblk m c 15 t) (ix2 0 f) = (show FVec Ideal S2816 .f32 from m ((c : Thread nD τ).loc main_arg14)) _
    blk_point [iblk, V, (idx t).2.2.2.2.2.2.2.2.2.2.2.2.2.2.2.1]
  wd f j := by
    show (show FVec Ideal S2816x1024 .bf16 from iblk m c 16 t) (ix2 f j) = (show FVec Ideal S2816x1024 .f32 from m ((c : Thread nD τ).loc main_arg15)) _
    blk_point [iblk, V, (idx t).2.2.2.2.2.2.2.2.2.2.2.2.2.2.2.2.1]
  g2 k := by
    show (show FVec Ideal S1x1024 .f32 from iblk m c 17 t) (ix2 0 k) = (show FVec Ideal S1024 .f32 from m ((c : Thread nD τ).loc main_arg16)) _
    blk_point [iblk, V, (idx t).2.2.2.2.2.2.2.2.2.2.2.2.2.2.2.2.2.1]
  b2 k := by
    show (show FVec Ideal S1x1024 .f32 from iblk m c 18 t) (ix2 0 k) = (show FVec Ideal S1024 .f32 from m ((c : Thread nD τ).loc main_arg17)) _
    blk_point [iblk, V, (idx t).2.2.2.2.2.2.2.2.2.2.2.2.2.2.2.2.2.2.1]

end Cert.TailIdeal.Block
-- ==== Proof.TailArray.lean ====
module

public import proofs.«01_k».proof.Proof.TailReads

@[expose] public section

/-! # The tail's result array -/

noncomputable section

namespace Cert.TailIdeal.Block

open Cert.TailIdeal Cert.TailIdeal.Gen Cert.TailIdeal.Tile Idealize.ShloMosaic Idealize.ShloMosaic.TcCoe Idealize.SL.Sem
open Idealize.ShloMosaic.Pipeline (Dat)
open Cert.TailSpec (Args bat pos)

set_option maxRecDepth 16384

variable (m : (ℓ : Loc nD τ sig) → Buf (Elt Ideal) ℓ)

/-- The activation the kernel computes. -/
abbrev act : EReal → EReal := Gelu.folded (Named.named κ "gelu_cubic" 0x3D122279#32 : Ideal .f32)

/-- What a grid point leaves for the next one. -/
theorem carry (c : Dev nD) (t : Fin cfg0.N) : (outsAt0 m c t.val t.isLt).2 = k0_pay10 (gateT (blocks m c t)) := by
  by_cases h0 : t.val % 16 = 0
  · rw [left_A m c t h0]
  · rw [left_B m c t h0]

/-- What a grid point writes is the tail's result at its tokens. -/
theorem left_at (c : Dev nD) (t : Fin cfg0.N) (r : Fin 512) (j : Fin 1024) :
    (outsAt0 m c t.val t.isLt).1 (ix2 r j) = TailSpec.out (args m c) act (row ⟨t.val, t.isLt⟩ r) j := by
  by_cases h0 : t.val % 16 = 0
  · rw [left_A m c t h0]
    exact out_at (reads m c t) (carried_zero _ h0) r j
  · rw [left_B m c t h0]
    have hp : t.val - 1 < cfg0.N := Nat.lt_of_le_of_lt (Nat.sub_le _ _) t.isLt
    have e := carry m c ⟨t.val - 1, hp⟩
    refine out_at (reads m c t) ?_ r j
    rw [show (outsAt0 m c (t.val - 1) _).2 = _ from e]
    exact carried_at (reads m c ⟨t.val - 1, hp⟩) ⟨t.val, t.isLt⟩ (by show t.val = t.val - 1 + 1; omega) h0

/-- The result array after the run. -/
theorem final (c : Dev nD) : (dats m 0 c).arrAt 19 (cfgs 0).N
    = fun i : S32768x1024.Idx => TailSpec.out (args m c) act (i 0) (i 1) := by
  refine (dats m 0 c).arrAt_eq_of_covers 19 _ (by decide +kernel) fun t _ y => ?_
  blk_simp
  rw [after0_19]
  refine Eq.trans (congrArg (outsAt0 m c t.val t.isLt).1 (?_ : _ = ix2 (y 0) (y 1))) ((left_at m c t (y 0) (y 1)).trans ?_)
  · funext a
    fin_cases a <;> rfl
  · have e : win0_19.index t = ![t.val, 0] := (idx t).2.2.2.2.2.2.2.2.2.2.2.2.2.2.2.2.2.2.2
    congr 1
    · apply Fin.ext
      blk_simp [e]
      show 512 * t.val + (y 0).val = t.val * 512 + (y 0).val
      omega
    · apply Fin.ext
      blk_simp [e]

end Cert.TailIdeal.Block
-- ==== Proof.TailRef.lean ====
module

public import proofs.«01_k».proof.Proof.TailSpec
public import proofs.«01_k».proof.Proof.Gelu
public import proofs.«01_k».proof.Proof.Gen.TailReferenceIdeal.Read
public import Idealize.ShloMosaic.Lib.Tactic.CleanTypes

@[expose] public section

/-! # The tail's reference, element by element, is the specification with the textbook GeLU -/

noncomputable section

namespace Cert.TailReferenceIdeal.At

open Cert.TailReferenceIdeal Cert.TailReferenceIdeal.Read Idealize.ShloMosaic Cert.TailSpec

set_option maxRecDepth 16384

variable (x0 : FVec Ideal S4x8192x1024 .f32) (x1 x2 : FVec Ideal S32768x1024 .bf16) (x3 : FVec Ideal S32768x2048 .bf16)
  (x4 : FVec Ideal S4x1x1024 .f32) (x5 : FVec Ideal S1024x1024 .f32) (x6 x7 : FVec Ideal S1024 .f32)
  (x8 x9 x10 : FVec Ideal S4x1x1024 .f32) (x11 x12 : FVec Ideal S1024x2816 .f32) (x13 : FVec Ideal S3x2816 .f32)
  (x14 : FVec Ideal S2816 .f32) (x15 : FVec Ideal S2816x1024 .f32) (x16 x17 : FVec Ideal S1024 .f32)

/-- The reference's arguments, read token by token. -/
def args : Args where
  x n k := x0 (ix3 (bat n) (pos n) k)
  ya n k := x1 (ix2 n k)
  yb n k := x2 (ix2 n k)
  gates n k := x3 (ix2 n k)
  gt1 b k := x4 (ix3 b 0 k)
  wo k j := x5 (ix2 k j)
  g1 k := x6 (ix1 k)
  b1 k := x7 (ix1 k)
  sc b k := x8 (ix3 b 0 k)
  sh b k := x9 (ix3 b 0 k)
  gt2 b k := x10 (ix3 b 0 k)
  wg k f := x11 (ix2 k f)
  wu k f := x12 (ix2 k f)
  cw i f := x13 (ix2 i f)
  cb f := x14 (ix1 f)
  wd f j := x15 (ix2 f j)
  g2 k := x16 (ix1 k)
  b2 k := x17 (ix1 k)

/-- The first residual. -/
theorem v18_at (b : Fin 4) (s : Fin 8192) (j : Fin 1024) :
    val_main_v18 (F := Ideal) x0 x1 x2 x3 x4 x5 (ix3 b s j) = res1 (args x0 x1 x2 x3 x4 x5 x6 x7 x8 x9 x10 x11 x12 x13 x14 x15 x16 x17) (tok b s) j := by
  unfold val_main_v18 val_main_v17 val_main_v16 val_main_v15 val_main_v14 val_main_v13 val_main_v12 val_main_v11
    val_main_v10 val_main_v9 val_main_v8 val_main_v7 val_main_v6 val_main_v5 val_main_v4 val_main_v3 val_main_v2
    val_main_v1 val_main_v0 val_main_cst val_main_cst_0
  clean_types
  pointwise []
  simp only [res1, merged, args, bat_tok, pos_tok]
  rfl

/-- The first norm. -/
theorem v40_at (b : Fin 4) (s : Fin 8192) (j : Fin 1024) :
    val_main_v40 (F := Ideal) x0 x1 x2 x3 x4 x5 x6 x7 (ix3 b s j) = TailSpec.x1 (args x0 x1 x2 x3 x4 x5 x6 x7 x8 x9 x10 x11 x12 x13 x14 x15 x16 x17) (tok b s) j := by
  have e : ∀ k, val_main_v18 (F := Ideal) x0 x1 x2 x3 x4 x5 (ix3 b s k) = res1 (args x0 x1 x2 x3 x4 x5 x6 x7 x8 x9 x10 x11 x12 x13 x14 x15 x16 x17) (tok b s) k :=
    fun k => v18_at x0 x1 x2 x3 x4 x5 x6 x7 x8 x9 x10 x11 x12 x13 x14 x15 x16 x17 b s k
  unfold val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_cst_1 val_main_cst_2 val_main_cst_3 val_main_cst_4 val_main_cst_5
  clean_types
  generalize val_main_v18 (F := Ideal) x0 x1 x2 x3 x4 x5 = y at e ⊢
  pointwise []
  simp only [e]
  rfl

/-- The modulated row. -/
theorem v46_at (b : Fin 4) (s : Fin 8192) (j : Fin 1024) :
    val_main_v46 (F := Ideal) x0 x1 x2 x3 x4 x5 x6 x7 x8 x9 (ix3 b s j) = hid (args x0 x1 x2 x3 x4 x5 x6 x7 x8 x9 x10 x11 x12 x13 x14 x15 x16 x17) (tok b s) j := by
  have e : ∀ k, val_main_v40 (F := Ideal) x0 x1 x2 x3 x4 x5 x6 x7 (ix3 b s k) = TailSpec.x1 (args x0 x1 x2 x3 x4 x5 x6 x7 x8 x9 x10 x11 x12 x13 x14 x15 x16 x17) (tok b s) k :=
    fun k => v40_at x0 x1 x2 x3 x4 x5 x6 x7 x8 x9 x10 x11 x12 x13 x14 x15 x16 x17 b s k
  unfold val_main_v46 val_main_v45 val_main_v44 val_main_v43 val_main_v42 val_main_v41 val_main_cst_6
  clean_types
  generalize val_main_v40 (F := Ideal) x0 x1 x2 x3 x4 x5 x6 x7 = y at e ⊢
  pointwise []
  simp only [e, hid, bat_tok]
  rfl

/-- The gate path. -/
theorem v47_at (b : Fin 4) (s : Fin 8192) (f : Fin 2816) :
    val_main_v47 (F := Ideal) x0 x1 x2 x3 x4 x5 x6 x7 x8 x9 x11 (ix3 b s f) = gate (args x0 x1 x2 x3 x4 x5 x6 x7 x8 x9 x10 x11 x12 x13 x14 x15 x16 x17) (tok b s) f := by
  have e : ∀ k, val_main_v46 (F := Ideal) x0 x1 x2 x3 x4 x5 x6 x7 x8 x9 (ix3 b s k) = hid (args x0 x1 x2 x3 x4 x5 x6 x7 x8 x9 x10 x11 x12 x13 x14 x15 x16 x17) (tok b s) k :=
    fun k => v46_at x0 x1 x2 x3 x4 x5 x6 x7 x8 x9 x10 x11 x12 x13 x14 x15 x16 x17 b s k
  unfold val_main_v47
  clean_types
  generalize val_main_v46 (F := Ideal) x0 x1 x2 x3 x4 x5 x6 x7 x8 x9 = y at e ⊢
  pointwise []
  simp only [e]
  rfl

/-- The up path. -/
theorem v87_at (b : Fin 4) (s : Fin 8192) (f : Fin 2816) :
    val_main_v87 (F := Ideal) x0 x1 x2 x3 x4 x5 x6 x7 x8 x9 x12 (ix3 b s f) = up (args x0 x1 x2 x3 x4 x5 x6 x7 x8 x9 x10 x11 x12 x13 x14 x15 x16 x17) (tok b s) f := by
  have e : ∀ k, val_main_v46 (F := Ideal) x0 x1 x2 x3 x4 x5 x6 x7 x8 x9 (ix3 b s k) = hid (args x0 x1 x2 x3 x4 x5 x6 x7 x8 x9 x10 x11 x12 x13 x14 x15 x16 x17) (tok b s) k :=
    fun k => v46_at x0 x1 x2 x3 x4 x5 x6 x7 x8 x9 x10 x11 x12 x13 x14 x15 x16 x17 b s k
  unfold val_main_v87
  clean_types
  generalize val_main_v46 (F := Ideal) x0 x1 x2 x3 x4 x5 x6 x7 x8 x9 = y at e ⊢
  pointwise []
  simp only [e]
  rfl

/-- Three addends in the other order. -/
theorem reversed (a b c d : EReal) : a + b + c + d = c + b + a + d := by
  rw [add_comm (a + b) c, add_comm a b, ← add_assoc]

/-- The convolved gate path. -/
theorem v73_at (b : Fin 4) (s : Fin 8192) (f : Fin 2816) :
    val_main_v73 (F := Ideal) x0 x1 x2 x3 x4 x5 x6 x7 x8 x9 x11 x13 x14 (ix3 b s f) = conv (args x0 x1 x2 x3 x4 x5 x6 x7 x8 x9 x10 x11 x12 x13 x14 x15 x16 x17) (tok b s) f := by
  have e : ∀ s f, val_main_v47 (F := Ideal) x0 x1 x2 x3 x4 x5 x6 x7 x8 x9 x11 (ix3 b s f) = gate (args x0 x1 x2 x3 x4 x5 x6 x7 x8 x9 x10 x11 x12 x13 x14 x15 x16 x17) (tok b s) f :=
    fun s f => v47_at x0 x1 x2 x3 x4 x5 x6 x7 x8 x9 x10 x11 x12 x13 x14 x15 x16 x17 b s f
  unfold val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_cst_7 val_main_call0_v0 val_main_c
  clean_types
  generalize val_main_v47 (F := Ideal) x0 x1 x2 x3 x4 x5 x6 x7 x8 x9 x11 = y at e ⊢
  pointwise []
  have z : (FloatOps.sitofp .f32 (0#32 : BitVec 32) : Ideal .f32) = (0 : EReal) := by
    show ((((0#32 : BitVec 32).toInt : ℤ) : ℝ) : EReal) = 0
    norm_num
  have e₂ : (if h : 2 ≤ s.val ∧ s.val - 2 < 8192 then y (ix3 b ⟨s.val - 2, h.2⟩ f) else (FloatOps.sitofp .f32 (0#32 : BitVec 32) : Ideal .f32))
      = back (args x0 x1 x2 x3 x4 x5 x6 x7 x8 x9 x10 x11 x12 x13 x14 x15 x16 x17) 2 (tok b s) f := by
    by_cases h : 2 ≤ s.val
    · rw [dif_pos ⟨h, by omega⟩, back_of_le _ h, e]
    · rw [dif_neg (fun c => h c.1), back_of_lt _ (by omega), z]
  have e₁ : (if h : 2 ≤ 1 + s.val ∧ 1 + s.val - 2 < 8192 then y (ix3 b ⟨1 + s.val - 2, h.2⟩ f)
        else (FloatOps.sitofp .f32 (0#32 : BitVec 32) : Ideal .f32)) = back (args x0 x1 x2 x3 x4 x5 x6 x7 x8 x9 x10 x11 x12 x13 x14 x15 x16 x17) 1 (tok b s) f := by
    by_cases h : 1 ≤ s.val
    · rw [dif_pos ⟨by omega, by omega⟩, back_of_le _ h, e]
      congr 2
      apply Fin.ext
      show 1 + s.val - 2 = s.val - 1
      omega
    · rw [dif_neg (fun c => h (by omega)), back_of_lt _ (by omega), z]
  rw [e₁, e₂, e]
  unfold conv
  exact reversed _ _ _ _

/-- The activated gate path. -/
theorem v86_at (b : Fin 4) (s : Fin 8192) (f : Fin 2816) :
    val_main_v86 (F := Ideal) x0 x1 x2 x3 x4 x5 x6 x7 x8 x9 x11 x13 x14 (ix3 b s f) = Gelu.plain (conv (args x0 x1 x2 x3 x4 x5 x6 x7 x8 x9 x10 x11 x12 x13 x14 x15 x16 x17) (tok b s) f) := by
  have e : val_main_v73 (F := Ideal) x0 x1 x2 x3 x4 x5 x6 x7 x8 x9 x11 x13 x14 (ix3 b s f) = conv (args x0 x1 x2 x3 x4 x5 x6 x7 x8 x9 x10 x11 x12 x13 x14 x15 x16 x17) (tok b s) f :=
    v73_at x0 x1 x2 x3 x4 x5 x6 x7 x8 x9 x10 x11 x12 x13 x14 x15 x16 x17 b s f
  unfold val_main_v86 val_main_v85 val_main_v84 val_main_v83 val_main_v82 val_main_v81 val_main_v80 val_main_v79 val_main_v78 val_main_v77 val_main_v76 val_main_v75 val_main_v74 val_main_cst_8 val_main_cst_9 val_main_cst_10 val_main_cst_11
  clean_types
  generalize val_main_v73 (F := Ideal) x0 x1 x2 x3 x4 x5 x6 x7 x8 x9 x11 x13 x14 = y at e ⊢
  pointwise []
  simp only [e, Gelu.plain, Ideal.ofBits_one_f32]

/-- The second residual. -/
theorem v96_at (b : Fin 4) (s : Fin 8192) (j : Fin 1024) :
    val_main_v96 (F := Ideal) x0 x1 x2 x3 x4 x5 x6 x7 x8 x9 x10 x11 x12 x13 x14 x15 (ix3 b s j)
      = res2 (args x0 x1 x2 x3 x4 x5 x6 x7 x8 x9 x10 x11 x12 x13 x14 x15 x16 x17) Gelu.plain (tok b s) j := by
  have e₁ : ∀ f, val_main_v86 (F := Ideal) x0 x1 x2 x3 x4 x5 x6 x7 x8 x9 x11 x13 x14 (ix3 b s f)
      = Gelu.plain (conv (args x0 x1 x2 x3 x4 x5 x6 x7 x8 x9 x10 x11 x12 x13 x14 x15 x16 x17) (tok b s) f) := fun f => v86_at x0 x1 x2 x3 x4 x5 x6 x7 x8 x9 x10 x11 x12 x13 x14 x15 x16 x17 b s f
  have e₂ : ∀ f, val_main_v87 (F := Ideal) x0 x1 x2 x3 x4 x5 x6 x7 x8 x9 x12 (ix3 b s f) = up (args x0 x1 x2 x3 x4 x5 x6 x7 x8 x9 x10 x11 x12 x13 x14 x15 x16 x17) (tok b s) f :=
    fun f => v87_at x0 x1 x2 x3 x4 x5 x6 x7 x8 x9 x10 x11 x12 x13 x14 x15 x16 x17 b s f
  have e₃ : ∀ k, val_main_v40 (F := Ideal) x0 x1 x2 x3 x4 x5 x6 x7 (ix3 b s k) = TailSpec.x1 (args x0 x1 x2 x3 x4 x5 x6 x7 x8 x9 x10 x11 x12 x13 x14 x15 x16 x17) (tok b s) k :=
    fun k => v40_at x0 x1 x2 x3 x4 x5 x6 x7 x8 x9 x10 x11 x12 x13 x14 x15 x16 x17 b s k
  unfold val_main_v96 val_main_v95 val_main_v94 val_main_v93 val_main_v92 val_main_v91 val_main_v90 val_main_v89 val_main_v88 val_main_cst_12 val_main_cst_13
  clean_types
  generalize val_main_v86 (F := Ideal) x0 x1 x2 x3 x4 x5 x6 x7 x8 x9 x11 x13 x14 = y₁ at e₁ ⊢
  generalize val_main_v87 (F := Ideal) x0 x1 x2 x3 x4 x5 x6 x7 x8 x9 x12 = y₂ at e₂ ⊢
  generalize val_main_v40 (F := Ideal) x0 x1 x2 x3 x4 x5 x6 x7 = y₃ at e₃ ⊢
  pointwise []
  simp only [e₁, e₂, e₃, res2, bat_tok]
  rfl

/-- The result. -/
theorem v119_at (n : Fin 32768) (j : Fin 1024) :
    val_main_v119 (F := Ideal) x0 x1 x2 x3 x4 x5 x6 x7 x8 x9 x10 x11 x12 x13 x14 x15 x16 x17 (ix2 n j)
      = out (args x0 x1 x2 x3 x4 x5 x6 x7 x8 x9 x10 x11 x12 x13 x14 x15 x16 x17) Gelu.plain n j := by
  have e : ∀ b s k, val_main_v96 (F := Ideal) x0 x1 x2 x3 x4 x5 x6 x7 x8 x9 x10 x11 x12 x13 x14 x15 (ix3 b s k)
      = res2 (args x0 x1 x2 x3 x4 x5 x6 x7 x8 x9 x10 x11 x12 x13 x14 x15 x16 x17) Gelu.plain (tok b s) k := fun b s k => v96_at x0 x1 x2 x3 x4 x5 x6 x7 x8 x9 x10 x11 x12 x13 x14 x15 x16 x17 b s k
  unfold val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_cst_14 val_main_cst_15 val_main_cst_16 val_main_cst_17 val_main_cst_18
  clean_types
  generalize val_main_v96 (F := Ideal) x0 x1 x2 x3 x4 x5 x6 x7 x8 x9 x10 x11 x12 x13 x14 x15 = y at e ⊢
  pointwise []
  simp only [e, tok_eq]
  rfl

end Cert.TailReferenceIdeal.At
-- ==== Proof.Finite.lean ====
module

public import Idealize.ShloMosaic.Lib.Pointwise
public import Idealize.ShloMosaic.Lib.ReduceAll
public import Idealize.ShloMosaic.Lib.WordArith
public import Idealize.ShloMosaic.PureOps.Ideal.Laws

@[expose] public section

/-! # Finite numbers

Which operations keep an extended real finite, and what a host check `|x| < inf` over a whole array says. -/

noncomputable section

namespace Cert.Finite

open Idealize.ShloMosaic

/-- The number is a real. -/
def IsR (x : EReal) : Prop := ∃ r : ℝ, x = (r : EReal)

theorem IsR.ne_bot {x : EReal} (h : IsR x) : x ≠ ⊥ := by
  obtain ⟨r, rfl⟩ := h
  exact EReal.coe_ne_bot r

theorem IsR.ne_top {x : EReal} (h : IsR x) : x ≠ ⊤ := by
  obtain ⟨r, rfl⟩ := h
  exact EReal.coe_ne_top r

theorem isR_coe (r : ℝ) : IsR (r : EReal) := ⟨r, rfl⟩

theorem isR_one : IsR (1 : EReal) := ⟨1, EReal.coe_one.symm⟩

theorem isR_zero : IsR (0 : EReal) := ⟨0, EReal.coe_zero.symm⟩

theorem IsR.add {x y : EReal} (hx : IsR x) (hy : IsR y) : IsR (x + y) := by
  obtain ⟨r, rfl⟩ := hx
  obtain ⟨s, rfl⟩ := hy
  exact ⟨r + s, (EReal.coe_add r s).symm⟩

theorem IsR.sub {x y : EReal} (hx : IsR x) (hy : IsR y) : IsR (x - y) := by
  obtain ⟨r, rfl⟩ := hx
  obtain ⟨s, rfl⟩ := hy
  exact ⟨r - s, (EReal.coe_sub r s).symm⟩

theorem IsR.mul {x y : EReal} (hx : IsR x) (hy : IsR y) : IsR (x * y) := by
  obtain ⟨r, rfl⟩ := hx
  obtain ⟨s, rfl⟩ := hy
  exact ⟨r * s, (EReal.coe_mul r s).symm⟩

/-- A sum of reals, as a real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type} {s : Finset ι} {f : ι → EReal} (h : ∀ i, IsR (f i)) : IsR (∑ i ∈ s, f i) := by
  choose g hg using h
  exact ⟨∑ i ∈ s, g i, by rw [coe_sum]; exact Finset.sum_congr rfl fun i _ => hg i⟩

/-- A single-bit check that a magnitude is below infinity. -/
theorem isR_of_bit {x : EReal} (h : Ideal.cmp .olt (max x (-x)) (Ideal.ofBits .f32 0x7F800000#32) = 1#1) : IsR x := by
  have htop : Ideal.ofBits .f32 0x7F800000#32 = (⊤ : EReal) := by
    simp [Ideal.ofBits, Ideal.ieee]
  rw [htop] at h
  induction x with
  | bot => exact absurd h (by simp [Ideal.cmp])
  | top => exact absurd h (by simp [Ideal.cmp])
  | coe r => exact ⟨r, rfl⟩

/-- A host check that every magnitude of an array is below infinity. -/
theorem isR_of_all {s u : Shape} {axes : List (Fin s.rank)} (x : FVec Ideal s .f32)
    (d : Fin 0 → Fin s.rank) (hb : (⟨0, ![]⟩ : Shape).BroadcastsInDim s d) (init : u.Idx → BitVec 1)
    (h : s.ReducesTo axes ⟨0, ![]⟩) (hu : 0 < u.numel) (j : (⟨0, ![]⟩ : Shape).Idx)
    (e : Host.reduce IntOp.andi (cmpf .olt (Host.absf x) (broadcastInDim s d hb (constant ⟨0, ![]⟩ .f32 0x7F800000#32)))
      init h hu j = 1#1) (i : s.Idx) : IsR (x i) := by
  haveI : Subsingleton (⟨0, ![]⟩ : Shape).Idx := ⟨fun a b => funext fun k => k.elim0⟩
  exact isR_of_bit (Host.reduce_andi_all _ _ h hu j e i)

end Cert.Finite
-- ==== Proof.TailPre.lean ====
module

public import proofs.«01_k».proof.Proof.Finite
public import proofs.«01_k».proof.Pre_tail_pre

@[expose] public section

/-! # The tail's precondition: its arguments are finite -/

noncomputable section

namespace Cert.TailPre

open Cert.Pre_tail_pre Idealize.ShloMosaic Cert.Finite

set_option maxRecDepth 16384

variable [Facts] (x0 : FVec Ideal S4x8192x1024 .f32) (x1 x2 : FVec Ideal S32768x1024 .bf16) (x3 : FVec Ideal S32768x2048 .bf16)
  (x4 : FVec Ideal S4x1x1024 .f32) (x5 : FVec Ideal S1024x1024 .f32) (x6 x7 : FVec Ideal S1024 .f32)
  (x8 x9 x10 : FVec Ideal S4x1x1024 .f32) (x11 x12 : FVec Ideal S1024x2816 .f32) (x13 : FVec Ideal S3x2816 .f32)
  (x14 : FVec Ideal S2816 .f32) (x15 : FVec Ideal S2816x1024 .f32) (x16 x17 : FVec Ideal S1024 .f32)

/-- What the precondition checks, array by array. -/
theorem finite (h : fn (F := Ideal) x0 x1 x2 x3 x4 x5 x6 x7 x8 x9 x10 x11 x12 x13 x14 x15 x16 x17 = fun _ => 1#1) :
    (∀ i, IsR (x0 i)) ∧ (∀ i, IsR (x1 i)) ∧ (∀ i, IsR (x2 i)) ∧ (∀ i, IsR (x3 i)) ∧ (∀ i, IsR (x4 i)) ∧ (∀ i, IsR (x5 i))
    ∧ (∀ i, IsR (x6 i)) ∧ (∀ i, IsR (x7 i)) ∧ (∀ i, IsR (x8 i)) ∧ (∀ i, IsR (x9 i)) ∧ (∀ i, IsR (x11 i))
    ∧ (∀ i, IsR (x13 i)) ∧ (∀ i, IsR (x14 i)) := by
  have e := congrFun h (fun k => k.elim0)
  unfold fn fn_part1 fn_part2 fn_part3 at e
  dsimp only [andi] at e
  simp only [IntOp.andi_eq_one] at e
  obtain ⟨⟨⟨⟨⟨⟨⟨⟨⟨⟨⟨⟨e0, e1⟩, e2⟩, e3⟩, e4⟩, e5⟩, e6⟩, e7⟩, e8⟩, e9⟩, e11⟩, e13⟩, e14⟩ := e
  exact ⟨isR_of_all _ _ _ _ _ _ _ e0, isR_of_all _ _ _ _ _ _ _ e1, isR_of_all _ _ _ _ _ _ _ e2, isR_of_all _ _ _ _ _ _ _ e3,
    isR_of_all _ _ _ _ _ _ _ e4, isR_of_all _ _ _ _ _ _ _ e5, isR_of_all _ _ _ _ _ _ _ e6, isR_of_all _ _ _ _ _ _ _ e7,
    isR_of_all _ _ _ _ _ _ _ e8, isR_of_all _ _ _ _ _ _ _ e9, isR_of_all _ _ _ _ _ _ _ e11, isR_of_all _ _ _ _ _ _ _ e13,
    isR_of_all _ _ _ _ _ _ _ e14⟩

end Cert.TailPre
-- ==== Proof.TailFinite.lean ====
module

public import proofs.«01_k».proof.Proof.Finite
public import proofs.«01_k».proof.Proof.TailSpec

@[expose] public section

/-! # The tail's convolved gate path is finite when its arguments are -/

noncomputable section

namespace Cert.TailSpec

open Idealize.ShloMosaic Cert.Finite

theorem alpha_real : IsR alpha := by
  refine ⟨9975792 / 8388608, ?_⟩
  simp [alpha, Ideal.ofBits, Ideal.ieee, -EReal.coe_mul]; norm_num

theorem len_val : len = ((1024 : ℝ) : EReal) := by
  simp [len, Ideal.ofBits, Ideal.ieee, -EReal.coe_mul]; norm_num

theorem eps_val : ∃ r : ℝ, 0 < r ∧ eps = (r : EReal) := by
  refine ⟨2748779 / 274877906944, by norm_num, ?_⟩
  simp [eps, Ideal.ofBits, Ideal.ieee, -EReal.coe_mul]; norm_num

theorem div_len {x : EReal} (h : IsR x) : IsR (Ideal.div x len) := by
  rw [len_val, Ideal.div_coe (by norm_num)]
  exact h.mul (isR_coe _)

theorem mean_real {v : Fin 1024 → EReal} (h : ∀ k, IsR (v k)) : IsR (mean v) := div_len (IsR.sum h)

/-- A variance is a real that is not negative. -/
theorem var_real {v : Fin 1024 → EReal} (h : ∀ k, IsR (v k)) : ∃ r : ℝ, 0 ≤ r ∧ var v = (r : EReal) := by
  choose g hg using fun k => (h k).sub (mean_real h)
  refine ⟨(∑ k, g k * g k) * (1 / 1024), mul_nonneg (Finset.sum_nonneg fun k _ => mul_self_nonneg _) (by norm_num), ?_⟩
  unfold var
  rw [len_val, Ideal.div_coe (by norm_num), EReal.coe_mul, coe_sum]
  refine congrArg (· * ((1 / 1024 : ℝ) : EReal)) (Finset.sum_congr rfl fun k _ => ?_)
  rw [hg, EReal.coe_mul]

theorem lnorm_real {v g b : Fin 1024 → EReal} (h : ∀ k, IsR (v k)) (hg : ∀ k, IsR (g k)) (hb : ∀ k, IsR (b k))
    (j : Fin 1024) : IsR (lnorm v g b j) := by
  obtain ⟨r, hr, e⟩ := var_real h
  obtain ⟨s, hs, e'⟩ := eps_val
  have q : IsR (Ideal.rsqrt (var v + eps)) := by
    rw [e, e', ← EReal.coe_add, Ideal.rsqrt_coe, if_neg (by linarith), if_neg (by linarith)]
    exact isR_coe _
  exact (((h j).sub (mean_real h)).mul q |>.mul (hg j)).add (hb j)

/-- The arguments the gate path depends on are finite. -/
structure Real (A : Args) : Prop where
  x : ∀ n k, IsR (A.x n k)
  ya : ∀ n k, IsR (A.ya n k)
  yb : ∀ n k, IsR (A.yb n k)
  gates : ∀ n k, IsR (A.gates n k)
  gt1 : ∀ b k, IsR (A.gt1 b k)
  wo : ∀ k j, IsR (A.wo k j)
  g1 : ∀ k, IsR (A.g1 k)
  b1 : ∀ k, IsR (A.b1 k)
  sc : ∀ b k, IsR (A.sc b k)
  sh : ∀ b k, IsR (A.sh b k)
  wg : ∀ k f, IsR (A.wg k f)
  cw : ∀ i f, IsR (A.cw i f)
  cb : ∀ f, IsR (A.cb f)

variable {A : Args} (R : Real A)
include R

theorem res1_real (n : Fin 32768) (j : Fin 1024) : IsR (res1 A n j) :=
  (alpha_real.mul (R.x n j)).add ((isR_one.add (R.gt1 _ _)).mul (IsR.sum fun k =>
    (((R.gates n _).mul (R.ya n k)).add ((R.gates n _).mul (R.yb n k))).mul (R.wo k j)))

theorem hid_real (n : Fin 32768) (j : Fin 1024) : IsR (hid A n j) :=
  ((lnorm_real (res1_real R n) R.g1 R.b1 j).mul (isR_one.add (R.sc _ _))).add (R.sh _ _)

theorem gate_real (n : Fin 32768) (f : Fin 2816) : IsR (gate A n f) := IsR.sum fun k => (hid_real R n k).mul (R.wg k f)

theorem back_real (d : ℕ) (n : Fin 32768) (f : Fin 2816) : IsR (back A d n f) := by
  unfold back
  split
  · exact gate_real R _ f
  · exact isR_zero

theorem conv_real (n : Fin 32768) (f : Fin 2816) : IsR (conv A n f) :=
  ((((R.cw 2 f).mul (gate_real R n f)).add ((R.cw 1 f).mul (back_real R 1 n f))).add
    ((R.cw 0 f).mul (back_real R 2 n f))).add (R.cb f)

end Cert.TailSpec
-- ==== Proof.TailClaim.lean ====
module

public import proofs.«01_k».proof.Defs
public import proofs.«01_k».proof.Proof.TailArray
public import proofs.«01_k».proof.Proof.TailRef
public import proofs.«01_k».proof.Proof.TailPre
public import proofs.«01_k».proof.Proof.TailFinite
public import proofs.«01_k».proof.Proof.Gen.Tail.Frame
public import proofs.«01_k».proof.Proof.Gen.TailIdeal.Value
public import proofs.«01_k».proof.Proof.Gen.Pre_tail_pre
public import proofs.«01_k».proof.Proof.Gen.TailReferenceIdeal.Run
public import Idealize.ShloMosaic.Lib.Claim
public import Idealize.ShloMosaic.Lib.Quiescent

@[expose] public section

/-! # The tail's claims -/

noncomputable section

namespace Cert.Proof.TailClaim

open Idealize.ShloMosaic Idealize.ShloMosaic.TcCoe Idealize.SL.Sem

theorem frame_p : Cert.quiescent_Tail := fun m ρ _ => Cert.Tail.Gen.frame m ρ

theorem frame_pi : Cert.quiescent_TailIdeal := fun m ρ _ => Cert.TailIdeal.Gen.frame m ρ

theorem frame_ri : Cert.quiescent_TailReferenceIdeal := fun m ρ _ =>
  (θ_run Cert.TailReferenceIdeal.defs _ _).mono
    (fun r h => ⟨fun c => (h c).2, sem_eq_zero_of_no_sems (by decide) r.2⟩)
    (Cert.TailReferenceIdeal.Value.run (F := Ideal) m ρ)

theorem preserves : Cert.preserves_Tail_TailIdeal :=
  IdealRules.named_const.statement Cert.TailIdeal.κ "gelu_cubic" .f32 0x3D122279#32
    ((80338380498831 / 2251799813685248 : ℝ) : EReal) rfl

/-- The kernel's GeLU constant, exactly. -/
theorem cubic : Named.named (F := Ideal) Cert.TailIdeal.κ "gelu_cubic" (φ := .f32) 0x3D122279#32
    = ((80338380498831 / 2251799813685248 : ℝ) : EReal) :=
  IdealRules.named_const.ideal_named_scalar _ _ _ _ rfl

/-- With finite arguments the two forms of the GeLU are only met where they agree. -/
theorem same_act (A : TailSpec.Args) (R : TailSpec.Real A) :
    TailSpec.out A Gelu.plain = TailSpec.out A Cert.TailIdeal.Block.act :=
  TailSpec.out_congr A fun n f =>
    (Gelu.folded_eq_plain cubic (TailSpec.conv_real R n f).ne_bot (TailSpec.conv_real R n f).ne_top).symm

/-- What the precondition says of the kernel's arguments. -/
theorem real_args (m : (ℓ : Loc Cert.TailIdeal.nD Cert.TailIdeal.τ Cert.TailIdeal.sig) → Buf (Elt Ideal) ℓ)
    (hpre : Cert.Pre_TailIdeal_tail_pre m) (c : Dev Cert.TailIdeal.nD) :
    TailSpec.Real (Cert.TailIdeal.Block.args m c) := by
  obtain ⟨e0, e1, e2, e3, e4, e5, e6, e7, e8, e9, e11, e13, e14⟩ :=
    Cert.TailPre.finite _ _ _ _ _ _ _ _ _ _ _ _ _ _ _ _ _ _ (hpre c)
  exact
    { x := fun _ _ => e0 _, ya := fun _ _ => e1 _, yb := fun _ _ => e2 _, gates := fun _ _ => e3 _, gt1 := fun _ _ => e4 _
      wo := fun _ _ => e5 _, g1 := fun _ => e6 _, b1 := fun _ => e7 _, sc := fun _ _ => e8 _, sh := fun _ _ => e9 _
      wg := fun _ _ => e11 _, cw := fun _ _ => e13 _, cb := fun _ => e14 _ }

/-- The reference's arguments, read token by token, where the two memories agree. -/
theorem args_eq (m : (ℓ : Loc Cert.TailIdeal.nD Cert.TailIdeal.τ Cert.TailIdeal.sig) → Buf (Elt Ideal) ℓ) (c : Dev Cert.TailIdeal.nD)
    {V : Valuation Cert.TailReferenceIdeal.τ Cert.TailReferenceIdeal.sig (Elt Ideal)}
    (a0 : V (Proc.devRef .tc Cert.TailReferenceIdeal.main_arg0) = m ((c.tc : Thread Cert.TailIdeal.nD Cert.TailIdeal.τ).loc Cert.TailIdeal.main_arg0))
    (a1 : V (Proc.devRef .tc Cert.TailReferenceIdeal.main_arg1) = m ((c.tc : Thread Cert.TailIdeal.nD Cert.TailIdeal.τ).loc Cert.TailIdeal.main_arg1))
    (a2 : V (Proc.devRef .tc Cert.TailReferenceIdeal.main_arg2) = m ((c.tc : Thread Cert.TailIdeal.nD Cert.TailIdeal.τ).loc Cert.TailIdeal.main_arg2))
    (a3 : V (Proc.devRef .tc Cert.TailReferenceIdeal.main_arg3) = m ((c.tc : Thread Cert.TailIdeal.nD Cert.TailIdeal.τ).loc Cert.TailIdeal.main_arg3))
    (a4 : V (Proc.devRef .tc Cert.TailReferenceIdeal.main_arg4) = m ((c.tc : Thread Cert.TailIdeal.nD Cert.TailIdeal.τ).loc Cert.TailIdeal.main_arg4))
    (a5 : V (Proc.devRef .tc Cert.TailReferenceIdeal.main_arg5) = m ((c.tc : Thread Cert.TailIdeal.nD Cert.TailIdeal.τ).loc Cert.TailIdeal.main_arg5))
    (a6 : V (Proc.devRef .tc Cert.TailReferenceIdeal.main_arg6) = m ((c.tc : Thread Cert.TailIdeal.nD Cert.TailIdeal.τ).loc Cert.TailIdeal.main_arg6))
    (a7 : V (Proc.devRef .tc Cert.TailReferenceIdeal.main_arg7) = m ((c.tc : Thread Cert.TailIdeal.nD Cert.TailIdeal.τ).loc Cert.TailIdeal.main_arg7))
    (a8 : V (Proc.devRef .tc Cert.TailReferenceIdeal.main_arg8) = m ((c.tc : Thread Cert.TailIdeal.nD Cert.TailIdeal.τ).loc Cert.TailIdeal.main_arg8))
    (a9 : V (Proc.devRef .tc Cert.TailReferenceIdeal.main_arg9) = m ((c.tc : Thread Cert.TailIdeal.nD Cert.TailIdeal.τ).loc Cert.TailIdeal.main_arg9))
    (a10 : V (Proc.devRef .tc Cert.TailReferenceIdeal.main_arg10) = m ((c.tc : Thread Cert.TailIdeal.nD Cert.TailIdeal.τ).loc Cert.TailIdeal.main_arg10))
    (a11 : V (Proc.devRef .tc Cert.TailReferenceIdeal.main_arg11) = m ((c.tc : Thread Cert.TailIdeal.nD Cert.TailIdeal.τ).loc Cert.TailIdeal.main_arg11))
    (a12 : V (Proc.devRef .tc Cert.TailReferenceIdeal.main_arg12) = m ((c.tc : Thread Cert.TailIdeal.nD Cert.TailIdeal.τ).loc Cert.TailIdeal.main_arg12))
    (a13 : V (Proc.devRef .tc Cert.TailReferenceIdeal.main_arg13) = m ((c.tc : Thread Cert.TailIdeal.nD Cert.TailIdeal.τ).loc Cert.TailIdeal.main_arg13))
    (a14 : V (Proc.devRef .tc Cert.TailReferenceIdeal.main_arg14) = m ((c.tc : Thread Cert.TailIdeal.nD Cert.TailIdeal.τ).loc Cert.TailIdeal.main_arg14))
    (a15 : V (Proc.devRef .tc Cert.TailReferenceIdeal.main_arg15) = m ((c.tc : Thread Cert.TailIdeal.nD Cert.TailIdeal.τ).loc Cert.TailIdeal.main_arg15))
    (a16 : V (Proc.devRef .tc Cert.TailReferenceIdeal.main_arg16) = m ((c.tc : Thread Cert.TailIdeal.nD Cert.TailIdeal.τ).loc Cert.TailIdeal.main_arg16))
    (a17 : V (Proc.devRef .tc Cert.TailReferenceIdeal.main_arg17) = m ((c.tc : Thread Cert.TailIdeal.nD Cert.TailIdeal.τ).loc Cert.TailIdeal.main_arg17)) :
    Cert.TailReferenceIdeal.At.args (V (Proc.devRef .tc Cert.TailReferenceIdeal.main_arg0)) (V (Proc.devRef .tc Cert.TailReferenceIdeal.main_arg1)) (V (Proc.devRef .tc Cert.TailReferenceIdeal.main_arg2)) (V (Proc.devRef .tc Cert.TailReferenceIdeal.main_arg3)) (V (Proc.devRef .tc Cert.TailReferenceIdeal.main_arg4)) (V (Proc.devRef .tc Cert.TailReferenceIdeal.main_arg5)) (V (Proc.devRef .tc Cert.TailReferenceIdeal.main_arg6)) (V (Proc.devRef .tc Cert.TailReferenceIdeal.main_arg7)) (V (Proc.devRef .tc Cert.TailReferenceIdeal.main_arg8)) (V (Proc.devRef .tc Cert.TailReferenceIdeal.main_arg9)) (V (Proc.devRef .tc Cert.TailReferenceIdeal.main_arg10)) (V (Proc.devRef .tc Cert.TailReferenceIdeal.main_arg11)) (V (Proc.devRef .tc Cert.TailReferenceIdeal.main_arg12)) (V (Proc.devRef .tc Cert.TailReferenceIdeal.main_arg13)) (V (Proc.devRef .tc Cert.TailReferenceIdeal.main_arg14)) (V (Proc.devRef .tc Cert.TailReferenceIdeal.main_arg15)) (V (Proc.devRef .tc Cert.TailReferenceIdeal.main_arg16)) (V (Proc.devRef .tc Cert.TailReferenceIdeal.main_arg17))
      = Cert.TailIdeal.Block.args m c := by
  rw [a0, a1, a2, a3, a4, a5, a6, a7, a8, a9, a10, a11, a12, a13, a14, a15, a16, a17]
  rfl

set_option maxHeartbeats 4000000 in
theorem algebraic : Cert.algebraic_TailIdeal_TailReferenceIdeal_pre_tail_pre := by
  pair_intro
  · run_from Cert.TailIdeal.Value.run_blocks m g
  · run_from Cert.TailReferenceIdeal.Value.run m' g'
    refine Eq.trans ?_ (Cert.TailIdeal.Block.final m c).symm
    obtain ⟨a0, a1, a2, a3, a4, a5, a6, a7, a8, a9, a10, a11, a12, a13, a14, a15, a16, a17⟩ := hagree c
    rw [← a16, ← a17]
    refine (Cert.TailReferenceIdeal.Read.val_main_v119_eq (StableHlo.launchContents m' c)).trans ?_
    funext i
    obtain ⟨n, j, rfl⟩ : ∃ n j, i = ix2 n j := ⟨i 0, i 1, by funext a; fin_cases a <;> rfl⟩
    refine (Cert.TailReferenceIdeal.At.v119_at _ _ _ _ _ _ _ _ _ _ _ _ _ _ _ _ _ _ n j).trans ?_
    rw [args_eq m c a0 a1 a2 a3 a4 a5 a6 a7 a8 a9 a10 a11 a12 a13 a14 a15 a16 a17, same_act _ (real_args m hpre c)]
    rfl

end Cert.Proof.TailClaim

end
-- ==== Proof.QkvzSpec.lean ====
module

public import proofs.«01_k».proof.Proof.TailSpec

@[expose] public section

/-! # What the q, k, v, z projection computes, token by token

The modulated input is projected to 6144 columns: q, k, v and z side by side. The first 4096 are convolved causally over four
tokens. The result holds eight groups, each with its own columns of q, k, v and z. -/

noncomputable section

namespace Cert.QkvzSpec

open Idealize.ShloMosaic
open Cert.TailSpec (bat pos tok)

/-- The arguments of the projection. -/
structure Args where
  /-- the layer's input -/
  x : Fin 32768 → Fin 1024 → EReal
  /-- scale of the modulation -/
  sc : Fin 4 → Fin 1024 → EReal
  /-- shift of the modulation -/
  sh : Fin 4 → Fin 1024 → EReal
  /-- the weights of q, k, v and z -/
  w : Fin 1024 → Fin 6144 → EReal
  /-- the convolution's taps -/
  cw : Fin 4 → Fin 4096 → EReal

/-- The column that column `j` of group `g` is among all of q, k, v and z. -/
def col (g : Fin 8) (j : Fin 768) : ℕ :=
  if j.val < 128 then g.val * 128 + j.val
  else if j.val < 256 then 1024 + (g.val * 128 + (j.val - 128))
  else if j.val < 512 then 2048 + (g.val * 256 + (j.val - 256))
  else 4096 + (g.val * 256 + (j.val - 512))

theorem col_lt (g : Fin 8) (j : Fin 768) : col g j < 6144 := by
  unfold col
  split_ifs <;> omega

theorem col_lt_conv (g : Fin 8) (j : Fin 768) (h : j.val < 512) : col g j < 4096 := by
  unfold col
  split_ifs <;> omega

variable (A : Args)

/-- The modulated input. -/
def hid (n : Fin 32768) (k : Fin 1024) : EReal := A.x n k * (1 + A.sc (bat n) k) + A.sh (bat n) k

/-- The projection. -/
def proj (n : Fin 32768) (e : Fin 6144) : EReal := ∑ k, hid A n k * A.w k e

/-- The projection `d` tokens back in the same sequence, zero before its start. -/
def back (d : ℕ) (n : Fin 32768) (e : Fin 6144) : EReal :=
  if d ≤ (pos n).val then proj A ⟨n.val - d, by omega⟩ e else 0

theorem back_of_le {d : ℕ} {b : Fin 4} {s : Fin 8192} (e : Fin 6144) (h : d ≤ s.val) :
    back A d (tok b s) e = proj A (tok b ⟨s.val - d, by omega⟩) e := by
  have e' : pos (tok b s) = s := TailSpec.pos_tok b s
  unfold back
  rw [if_pos (by rw [e']; exact h)]
  congr 1
  apply Fin.ext
  show b.val * 8192 + s.val - d = b.val * 8192 + (s.val - d)
  omega

theorem back_of_lt {d : ℕ} {b : Fin 4} {s : Fin 8192} (e : Fin 6144) (h : s.val < d) : back A d (tok b s) e = 0 := by
  have e' : pos (tok b s) = s := TailSpec.pos_tok b s
  unfold back
  rw [if_neg (by rw [e']; omega)]

/-- The convolved projection. -/
def conv (n : Fin 32768) (f : Fin 4096) : EReal :=
  A.cw 0 f * back A 3 n ⟨f.val, by omega⟩ + A.cw 1 f * back A 2 n ⟨f.val, by omega⟩
    + A.cw 2 f * back A 1 n ⟨f.val, by omega⟩ + A.cw 3 f * back A 0 n ⟨f.val, by omega⟩

/-- The result of group `g` at token `n`. -/
def out (g : Fin 8) (n : Fin 32768) (j : Fin 768) : EReal :=
  if h : j.val < 512 then conv A n ⟨col g j, col_lt_conv g j h⟩ else proj A n ⟨col g j, col_lt g j⟩

end Cert.QkvzSpec

end
-- ==== Proof.QkvzTile.lean ====
module

public import proofs.«01_k».proof.Proof.QkvzSpec
public import proofs.«01_k».proof.Proof.Gen.QkvzIdeal.Value
public import Idealize.ShloMosaic.Lib.Pipeline.ValueKit
public import Idealize.ShloMosaic.Lib.Pipeline.ReadBack
public import Idealize.ShloMosaic.Lib.WholeRead
public import Idealize.ShloMosaic.Lib.Pointwise

@[expose] public section

/-! # What one block of the projection computes

A block takes 512 tokens. Per group it multiplies the modulated rows with the group's 768 columns, puts the first 512 columns of
the product behind the eight carried rows of the previous block, and convolves four rows of that buffer at a time. -/

noncomputable section

namespace Cert.QkvzIdeal.Tile

open Cert.QkvzIdeal Cert.QkvzIdeal.Gen Idealize.ShloMosaic

set_option maxRecDepth 16384

variable (x0 : Vec Ideal S512x1024 .f32) (x1 x2 : Vec Ideal S1x1x1024 .f32) (x3 : Vec Ideal S1024x6144 .bf16)
  (x4 : Vec Ideal S4x6144 .f32) (h : Vec Ideal S8x8x512 .f32)

/-- A column of group `g` among the columns of all groups. -/
abbrev gcol (g : Fin 8) (e : Fin 768) : Fin 6144 := ⟨768 * g.val + e.val, by omega⟩

/-- The block's projection. -/
def acc (g : Fin 8) (r : Fin 512) (e : Fin 768) : EReal :=
  ∑ k : Fin 1024, (x0 (ix2 r k) * (1 + x1 (ix3 0 0 k)) + x2 (ix3 0 0 k)) * x3 (ix2 k (gcol g e))

/-- Row `i` of a buffer that holds eight carried rows and then 512 rows. -/
def row (A : Fin 512 → Fin 512 → EReal) (H : Fin 8 → Fin 512 → EReal) (i : ℕ) (j : Fin 512) : EReal :=
  if hi : i < 8 then H ⟨i, hi⟩ j else if hi' : i - 8 < 512 then A ⟨i - 8, hi'⟩ j else 0

/-- The buffer of group `g`. -/
def buf (g : Fin 8) : ℕ → Fin 512 → EReal :=
  row (fun r j => acc x0 x1 x2 x3 g r ⟨j.val, by omega⟩) fun i j => h (ix3 g i j)

/-- The block's result. -/
def tileAt (g : Fin 8) (r : Fin 512) (j : Fin 768) : EReal :=
  if hj : j.val < 512 then
    x4 (ix2 0 (gcol g j)) * buf x0 x1 x2 x3 h g (r.val + 5) ⟨j.val, hj⟩
      + x4 (ix2 1 (gcol g j)) * buf x0 x1 x2 x3 h g (r.val + 6) ⟨j.val, hj⟩
      + x4 (ix2 2 (gcol g j)) * buf x0 x1 x2 x3 h g (r.val + 7) ⟨j.val, hj⟩
      + x4 (ix2 3 (gcol g j)) * buf x0 x1 x2 x3 h g (r.val + 8) ⟨j.val, hj⟩
  else acc x0 x1 x2 x3 g r j

/-- The block's result as an array. -/
def tile (y : S8x512x768.Idx) : EReal := tileAt x0 x1 x2 x3 x4 h (y 0) (y 1) (y 2)

/-- What the block hands to the next one. -/
def carry (y : S8x8x512.Idx) : EReal :=
  acc x0 x1 x2 x3 (y 0) ⟨504 + (y 1).val, by have := (y 1).isLt; change _ < 8 at this; omega⟩
    ⟨(y 2).val, by have := (y 2).isLt; change _ < 512 at this; omega⟩

/-- Four rows of a buffer times the taps. -/
def conv4 (cw : FVec Ideal S4x512 .f32) (a b c d : FVec Ideal S128x512 .f32) : FVec Ideal S1x128x512 .bf16 :=
  k0_pay13 (F := Ideal) (k0_pay6 (F := Ideal) cw) (k0_pay11 (F := Ideal) (k0_pay6 (F := Ideal) cw) a b)
    (k0_pay12 (F := Ideal) (k0_pay6 (F := Ideal) cw)) c d

theorem conv4_at (cw : FVec Ideal S4x512 .f32) (a b c d : FVec Ideal S128x512 .f32) (r : Fin 128) (j : Fin 512) :
    conv4 cw a b c d (ix3 0 r j) = cw (ix2 0 j) * a (ix2 r j) + cw (ix2 1 j) * b (ix2 r j) + cw (ix2 2 j) * c (ix2 r j)
      + cw (ix2 3 j) * d (ix2 r j) := by
  pointwise [conv4, k0_pay13, k0_pay11, k0_pay12, k0_pay6]

/-- The block's product. -/
theorem pay4_at (w : FVec Ideal S1024x768 .bf16) (r : Fin 512) (e : Fin 768) :
    k0_pay4 (F := Ideal) x0 x1 x2 w (ix2 r e)
      = ∑ k : Fin 1024, (x0 (ix2 r k) * (1 + x1 (ix3 0 0 k)) + x2 (ix3 0 0 k)) * w (ix2 k e) := by
  pointwise [k0_pay4, k0_pay3]

theorem pay5_at (w : FVec Ideal S1024x768 .bf16) (r : Fin 512) (j : Fin 256) :
    k0_pay5 (F := Ideal) x0 x1 x2 w (ix3 0 r j) = k0_pay4 (F := Ideal) x0 x1 x2 w (ix2 r ⟨512 + j.val, by omega⟩) := by
  pointwise [k0_pay5]

theorem pay8_at (v : FVec Ideal S1x8x512 .f32) (i : Fin 8) (j : Fin 512) :
    k0_pay8 (F := Ideal) (k0_pay7 (F := Ideal) v) (ix2 i j) = v (ix3 0 i j) := by
  pointwise [k0_pay8, k0_pay7]

theorem pay9_at (a : FVec Ideal S512x768 .f32) (r : Fin 512) (j : Fin 512) :
    k0_pay9 (F := Ideal) a (ix2 r j) = a (ix2 r ⟨j.val, by omega⟩) := by
  pointwise [k0_pay9]

theorem pay10_at (a : FVec Ideal S8x512 .f32) (i : Fin 8) (j : Fin 512) :
    k0_pay10 (F := Ideal) a (ix3 0 i j) = a (ix2 i j) := by
  pointwise [k0_pay10]

theorem pay2_at (y : S8x8x512.Idx) : k0_pay2 (F := Ideal) y = 0 := by
  obtain ⟨g, i, j, rfl⟩ : ∃ g i j, y = ix3 g i j := ⟨y 0, y 1, y 2, funext fun a => by match a with
    | ⟨0, _⟩ => rfl
    | ⟨1, _⟩ => rfl
    | ⟨2, _⟩ => rfl⟩
  pointwise [k0_pay2]

/-- Dropping a leading axis of size one. -/
theorem drop {n : ℕ} (f : (⟨3, ![1, n, 512]⟩ : Shape).numel = (⟨2, ![n, 512]⟩ : Shape).numel) (i : Fin n) (j : Fin 512) :
    Shape.reshapeEquiv f (ix3 0 i j) = ix2 i j := by
  have e := Shape.reshapeEquiv_cons_one (d := ![n, 512]) f.symm (ix2 i j)
  have e' : (ix3 0 i j : (⟨3, ![1, n, 512]⟩ : Shape).Idx) = Shape.reshapeEquiv f.symm (ix2 i j) := by
    refine Eq.trans (funext fun a => ?_) e.symm
    match a with
    | ⟨0, _⟩ => rfl
    | ⟨1, _⟩ => rfl
    | ⟨2, _⟩ => rfl
  rw [e', ← Shape.reshapeEquiv_symm f]
  exact Equiv.apply_symm_apply _ _

/-- The last stored piece, read inside it. -/
theorem canon_head {s : Shape} {e : EltTy} (r : Rect s) (w : r.shape.Idx → Elt Ideal e) (L : List (View.Piece (Elt Ideal) s e)) (y : s.Idx)
    (x : r.shape.Idx) (h : y = r.emb x) : View.canon (Val := Elt Ideal) (e := e) (⟨r, w⟩ :: L) y = w x := by
  rw [h]
  exact View.canon_cons_emb _ _ _ _

/-- A buffer's place holds the carried rows and the product's rows, whatever was stored elsewhere before. -/
theorem canon_slot {σ : ℕ} {inb} {inb₁} {inb₂} {e₁ e₂ e₃ e₄ f₁ f₂ f₃ f₄} (A : FVec Ideal S512x512 .f32) (H : FVec Ideal S8x512 .f32)
    (L : List (View.Piece (Elt Ideal) S2x520x512 .f32)) (y : S2x520x512.Idx) (i : ℕ) (j : Fin 512)
    (h₀ : (y 0).val = σ) (h₁ : (y 1).val = i) (h₂ : (y 2).val = j.val) :
    View.canon (Val := Elt Ideal) (e := .f32)
      (⟨(Rect.unit (s := S2x520x512) ![σ, 0, 0] S1x520x512.size inb).within
          ((Rect.unit (s := S520x512) ![8, 0] S512x512.size inb₁).consLift ![1, 520, 512] e₁ e₂) e₃,
          Rect.payAlong (r := Rect.unit (s := S520x512) ![8, 0] S512x512.size inb₁) e₄ A⟩
        :: ⟨(Rect.unit (s := S2x520x512) ![σ, 0, 0] S1x520x512.size inb).within
          ((Rect.unit (s := S520x512) ![0, 0] S8x512.size inb₂).consLift ![1, 520, 512] f₁ f₂) f₃,
          Rect.payAlong (r := Rect.unit (s := S520x512) ![0, 0] S8x512.size inb₂) f₄ H⟩ :: L) y
      = row (fun r j => A (ix2 r j)) (fun i j => H (ix2 i j)) i j := by
  have hlt : i < 520 := by have := (y 1).isLt; change _ < 520 at this; omega
  by_cases hi : i < 8
  · let x : (⟨3, ![1, 8, 512]⟩ : Shape).Idx := ix3 0 (⟨i, hi⟩ : Fin 8) j
    refine (View.canon_cons_of_not_mem _ _ fun hm => ?_).trans ?_
    · obtain ⟨x', hx'⟩ := LoadRect.exists_idx_of_mem _ hm
      have e := congrArg (fun y : S2x520x512.Idx => (y 1).val) hx'
      change 0 + 8 + 1 * (x' 1).val = (y 1).val at e
      omega
    · have e : y = ((Rect.unit (s := S2x520x512) ![σ, 0, 0] S1x520x512.size inb).within
          ((Rect.unit (s := S520x512) ![0, 0] S8x512.size inb₂).consLift ![1, 520, 512] f₁ f₂) f₃).emb x := funext fun a => by
        match a with
        | ⟨0, _⟩ => exact Fin.ext (h₀.trans (show σ = σ + 0 + 1 * 0 by omega))
        | ⟨1, _⟩ => exact Fin.ext (h₁.trans (show i = 0 + 0 + 1 * i by omega))
        | ⟨2, _⟩ => exact Fin.ext (h₂.trans (show j.val = 0 + 0 + 1 * j.val by omega))
      refine Eq.trans (canon_head _ _ _ _ x e) ?_
      refine Eq.trans (congrArg H (drop f₄ ⟨i, hi⟩ j)) ?_
      unfold row
      rw [dif_pos hi]
  · have hi' : i - 8 < 512 := by omega
    let x : (⟨3, ![1, 512, 512]⟩ : Shape).Idx := ix3 0 (⟨i - 8, hi'⟩ : Fin 512) j
    have e : y = ((Rect.unit (s := S2x520x512) ![σ, 0, 0] S1x520x512.size inb).within
        ((Rect.unit (s := S520x512) ![8, 0] S512x512.size inb₁).consLift ![1, 520, 512] e₁ e₂) e₃).emb x := funext fun a => by
      match a with
      | ⟨0, _⟩ => exact Fin.ext (h₀.trans (show σ = σ + 0 + 1 * 0 by omega))
      | ⟨1, _⟩ => exact Fin.ext (h₁.trans (show i = 0 + 8 + 1 * (i - 8) by omega))
      | ⟨2, _⟩ => exact Fin.ext (h₂.trans (show j.val = 0 + 0 + 1 * j.val by omega))
    refine Eq.trans (canon_head _ _ _ _ x e) ?_
    refine Eq.trans (congrArg A (drop e₄ ⟨i - 8, hi'⟩ j)) ?_
    unfold row
    rw [dif_neg hi, dif_pos hi']

/-- A load from a buffer's place reads its rows. -/
theorem tap {n σ o : ℕ} {v : View sig .tc .vmem S2x520x512 .f32} {inb} {inb₁} {inb₂} {e₁ e₂ e₃ e₄ f₁ f₂ f₃ f₄}
    {A : FVec Ideal S512x512 .f32} {H : FVec Ideal S8x512 .f32} {L L' : List (View.Piece (Elt Ideal) S2x520x512 .f32)}
    {inb' : ∀ a, (![o, 0] : Fin 2 → ℕ) a + (![n, 512] : Fin 2 → ℕ) a ≤ S520x512.size a} {g₁ g₂ g₃ g₄}
    (hL : L' = ⟨(Rect.unit (s := S2x520x512) ![σ, 0, 0] S1x520x512.size inb).within
          ((Rect.unit (s := S520x512) ![8, 0] S512x512.size inb₁).consLift ![1, 520, 512] e₁ e₂) e₃,
          Rect.payAlong (r := Rect.unit (s := S520x512) ![8, 0] S512x512.size inb₁) e₄ A⟩
        :: ⟨(Rect.unit (s := S2x520x512) ![σ, 0, 0] S1x520x512.size inb).within
          ((Rect.unit (s := S520x512) ![0, 0] S8x512.size inb₂).consLift ![1, 520, 512] f₁ f₂) f₃,
          Rect.payAlong (r := Rect.unit (s := S520x512) ![0, 0] S8x512.size inb₂) f₄ H⟩ :: L) (r : Fin n) (j : Fin 512) :
    (LoadRect.valAlong (lr := (Rect.unit (s := S520x512) ![o, 0] ![n, 512] inb').toLoadRect) g₄
      (v.readCov (Val := Elt Ideal) L' ((Rect.unit (s := S2x520x512) ![σ, 0, 0] S1x520x512.size inb).withinL
        ((Rect.unit (s := S520x512) ![o, 0] ![n, 512] inb').toLoadRect.consLift ![1, 520, 512] g₁ g₂) g₃))
      : (⟨2, ![n, 512]⟩ : Shape).Idx → Elt Ideal .f32) (ix2 r j)
      = row (fun r j => A (ix2 r j)) (fun i j => H (ix2 i j)) (o + r.val) j := by
  subst hL
  unfold LoadRect.valAlong
  rw [View.readCov_eq_canon']
  have e := Shape.reshapeEquiv_cons_one (d := ![n, 512]) g₄ (ix2 r j)
  dsimp only
  erw [e]
  refine canon_slot _ _ _ _ _ _ ?_ ?_ ?_
  · show σ + 0 + 1 * 0 = σ
    omega
  · show 0 + o + 1 * r.val = o + r.val
    omega
  · show 0 + 0 + 1 * j.val = j.val
    omega

section

variable {x0 x1 x2 x3 x4 h}

/-- The product, from the blocks as they are loaded. -/
theorem prod_at {g c : ℕ} (hg : g < 8) (hc : c = 768 * g)
    {M₀ : Memref sig .tc .vmem S512x1024 .f32} {H₀ : M₀.IsWhole} {M₁ M₂ : Memref sig .tc .vmem S1x1x1024 .f32} {H₁ : M₁.IsWhole}
    {H₂ : M₂.IsWhole} {M₃ : Memref sig .tc .vmem S1024x6144 .bf16} {H₃ : M₃.IsWhole} {i₀ i₁ i₂ i₃} (r : Fin 512) (e : Fin 768) :
    k0_pay4 (F := Ideal)
      (M₀.view.readAt (Elt Ideal) (Rect.unit (s := S512x1024) ![0, 0] S512x1024.size i₀).toLoadRect (H₀.unread x0))
      (M₁.view.readAt (Elt Ideal) (Rect.unit (s := S1x1x1024) ![0, 0, 0] S1x1x1024.size i₁).toLoadRect (H₁.unread x1))
      (M₂.view.readAt (Elt Ideal) (Rect.unit (s := S1x1x1024) ![0, 0, 0] S1x1x1024.size i₂).toLoadRect (H₂.unread x2))
      (M₃.view.readAt (Elt Ideal) (Rect.unit (s := S1024x6144) ![0, c] S1024x768.size i₃).toLoadRect (H₃.unread x3)) (ix2 r e)
      = acc x0 x1 x2 x3 ⟨g, hg⟩ r e := by
  refine (pay4_at _ _ _ _ r e).trans (Finset.sum_congr rfl fun k _ => ?_)
  refine congrArg₂ (· * ·) (congrArg₂ (· + ·) (congrArg₂ (· * ·) ?_ (congrArg (1 + ·) ?_)) ?_) ?_
  · refine Eq.trans (H₀.readAt_unread x0 _ _) (congrArg x0 (funext fun a => ?_))
    match a with
    | ⟨0, _⟩ => exact Fin.ext (show 0 + 1 * r.val = r.val by omega)
    | ⟨1, _⟩ => exact Fin.ext (show 0 + 1 * k.val = k.val by omega)
  · refine Eq.trans (H₁.readAt_unread x1 _ _) (congrArg x1 (funext fun a => ?_))
    match a with
    | ⟨0, _⟩ => rfl
    | ⟨1, _⟩ => rfl
    | ⟨2, _⟩ => exact Fin.ext (show 0 + 1 * k.val = k.val by omega)
  · refine Eq.trans (H₂.readAt_unread x2 _ _) (congrArg x2 (funext fun a => ?_))
    match a with
    | ⟨0, _⟩ => rfl
    | ⟨1, _⟩ => rfl
    | ⟨2, _⟩ => exact Fin.ext (show 0 + 1 * k.val = k.val by omega)
  · refine Eq.trans (H₃.readAt_unread x3 _ _) (congrArg x3 (funext fun a => ?_))
    match a with
    | ⟨0, _⟩ => exact Fin.ext (show 0 + 1 * k.val = k.val by omega)
    | ⟨1, _⟩ => exact Fin.ext (show c + 1 * e.val = 768 * g + e.val by omega)

/-- The product's first columns, from the blocks as they are loaded. -/
theorem acc_at {g c : ℕ} (hg : g < 8) (hc : c = 768 * g) {A : FVec Ideal S512x512 .f32}
    {M₀ : Memref sig .tc .vmem S512x1024 .f32} {H₀ : M₀.IsWhole} {M₁ M₂ : Memref sig .tc .vmem S1x1x1024 .f32} {H₁ : M₁.IsWhole}
    {H₂ : M₂.IsWhole} {M₃ : Memref sig .tc .vmem S1024x6144 .bf16} {H₃ : M₃.IsWhole} {i₀ i₁ i₂ i₃}
    (hA : A = k0_pay9 (F := Ideal) (k0_pay4 (F := Ideal)
      (M₀.view.readAt (Elt Ideal) (Rect.unit (s := S512x1024) ![0, 0] S512x1024.size i₀).toLoadRect (H₀.unread x0))
      (M₁.view.readAt (Elt Ideal) (Rect.unit (s := S1x1x1024) ![0, 0, 0] S1x1x1024.size i₁).toLoadRect (H₁.unread x1))
      (M₂.view.readAt (Elt Ideal) (Rect.unit (s := S1x1x1024) ![0, 0, 0] S1x1x1024.size i₂).toLoadRect (H₂.unread x2))
      (M₃.view.readAt (Elt Ideal) (Rect.unit (s := S1024x6144) ![0, c] S1024x768.size i₃).toLoadRect (H₃.unread x3))))
    (r : Fin 512) (j : Fin 512) : A (ix2 r j) = acc x0 x1 x2 x3 ⟨g, hg⟩ r ⟨j.val, by omega⟩ := by
  rw [hA, pay9_at]
  exact prod_at hg hc r _

/-- The taps of a group, as they are loaded. -/
theorem taps_at {g c : ℕ} (hg : g < 8) (hc : c = 768 * g) {cw : FVec Ideal S4x512 .f32} {M : Memref sig .tc .vmem S4x6144 .f32}
    {H : M.IsWhole} {i₄}
    (hcw : cw = M.view.readAt (Elt Ideal) (Rect.unit (s := S4x6144) ![0, c] S4x512.size i₄).toLoadRect (H.unread x4))
    (i : Fin 4) (j : Fin 512) : cw (ix2 i j) = x4 (ix2 i (gcol ⟨g, hg⟩ ⟨j.val, by omega⟩)) := by
  rw [hcw]
  refine Eq.trans (H.readAt_unread x4 _ _) (congrArg x4 (funext fun a => ?_))
  match a with
  | ⟨0, _⟩ => exact Fin.ext (show 0 + 1 * i.val = i.val by omega)
  | ⟨1, _⟩ => exact Fin.ext (show c + 1 * j.val = 768 * g + j.val by omega)

/-- The carried rows of a group, as they are loaded. -/
theorem halo_at {g : ℕ} (hg : g < 8) {Hv : FVec Ideal S8x512 .f32} {M : Memref sig .tc .vmem S8x8x512 .f32} {H : M.IsWhole} {i₅}
    (hH : Hv = k0_pay8 (F := Ideal) (k0_pay7 (F := Ideal)
      (M.view.readAt (Elt Ideal) (Rect.unit (s := S8x8x512) ![g, 0, 0] S1x8x512.size i₅).toLoadRect (H.unread h))))
    (i : Fin 8) (j : Fin 512) : Hv (ix2 i j) = h (ix3 ⟨g, hg⟩ i j) := by
  rw [hH, pay8_at]
  refine Eq.trans (H.readAt_unread h _ _) (congrArg h (funext fun a => ?_))
  match a with
  | ⟨0, _⟩ => rfl
  | ⟨1, _⟩ => exact Fin.ext (show 0 + 1 * i.val = i.val by omega)
  | ⟨2, _⟩ => exact Fin.ext (show 0 + 1 * j.val = j.val by omega)

/-- A group's carried rows are still zero. -/
def Zero (g : ℕ) (L : List (View.Piece (Elt Ideal) S8x8x512 .f32)) : Prop :=
  ∀ y : S8x8x512.Idx, (y 0).val = g → View.canon (Val := Elt Ideal) (e := .f32) L y = (0 : EReal)

theorem zero_fill {g : ℕ} {inb} {L : List (View.Piece (Elt Ideal) S8x8x512 .f32)} :
    Zero g (⟨Rect.unit (s := S8x8x512) ![0, 0, 0] S8x8x512.size inb, k0_pay2 (F := Ideal)⟩ :: L) := fun y _ => by
  have e := canon_head (e := .f32) (Rect.unit (s := S8x8x512) ![0, 0, 0] S8x8x512.size inb) (k0_pay2 (F := Ideal)) L y y
    (funext fun a => ?_)
  · exact e.trans (pay2_at y)
  match a with
  | ⟨0, _⟩ => exact Fin.ext (show (y 0).val = 0 + 1 * (y 0).val by omega)
  | ⟨1, _⟩ => exact Fin.ext (show (y 1).val = 0 + 1 * (y 1).val by omega)
  | ⟨2, _⟩ => exact Fin.ext (show (y 2).val = 0 + 1 * (y 2).val by omega)

theorem zero_cons {g k : ℕ} {inb} {w} {L : List (View.Piece (Elt Ideal) S8x8x512 .f32)} (hk : k ≠ g) (hL : Zero g L) :
    Zero g (⟨Rect.unit (s := S8x8x512) ![k, 0, 0] S1x8x512.size inb, w⟩ :: L) := fun y hy => by
  refine Eq.trans (View.canon_cons_of_not_mem _ _ fun hm => ?_) (hL y hy)
  obtain ⟨x, hx⟩ := LoadRect.exists_idx_of_mem _ hm
  have e := congrArg (fun y : S8x8x512.Idx => (y 0).val) hx
  have hx0 := (x 0).isLt
  change k + 1 * (x 0).val = (y 0).val at e
  change (x 0).val < 1 at hx0
  omega

/-- At a sequence's start the carried rows are zero. -/
theorem halo_zero {g : ℕ} (hg : g < 8) {Hv : FVec Ideal S8x512 .f32} {v : View sig .tc .vmem S8x8x512 .f32} {i₅}
    {L : List (View.Piece (Elt Ideal) S8x8x512 .f32)}
    (hH : Hv = k0_pay8 (F := Ideal) (k0_pay7 (F := Ideal)
      (v.readCov (Val := Elt Ideal) L (Rect.unit (s := S8x8x512) ![g, 0, 0] S1x8x512.size i₅).toLoadRect)))
    (hL : Zero g L) (i : Fin 8) (j : Fin 512) : Hv (ix2 i j) = (fun _ => (0 : EReal)) (ix3 (⟨g, hg⟩ : Fin 8) i j) := by
  rw [hH, pay8_at, View.readCov_eq_canon']
  exact hL _ (show g + 1 * 0 = g by omega)

/-- A convolved piece of the result. -/
theorem conv_piece {g r₀ : ℕ} {inb} (hg : g < 8) {P : FVec Ideal S1x128x512 .bf16} {cw : FVec Ideal S4x512 .f32}
    {a b c d : FVec Ideal S128x512 .f32} {A : FVec Ideal S512x512 .f32} {H : FVec Ideal S8x512 .f32} (hP : P = conv4 cw a b c d)
    (hcw : ∀ i j, cw (ix2 i j) = x4 (ix2 i (gcol ⟨g, hg⟩ ⟨j.val, by omega⟩)))
    (ha : ∀ (r : Fin 128) (j : Fin 512), a (ix2 r j) = row (fun r j => A (ix2 r j)) (fun i j => H (ix2 i j)) (r₀ + 5 + r.val) j)
    (hb : ∀ (r : Fin 128) (j : Fin 512), b (ix2 r j) = row (fun r j => A (ix2 r j)) (fun i j => H (ix2 i j)) (r₀ + 6 + r.val) j)
    (hc : ∀ (r : Fin 128) (j : Fin 512), c (ix2 r j) = row (fun r j => A (ix2 r j)) (fun i j => H (ix2 i j)) (r₀ + 7 + r.val) j)
    (hd : ∀ (r : Fin 128) (j : Fin 512), d (ix2 r j) = row (fun r j => A (ix2 r j)) (fun i j => H (ix2 i j)) (r₀ + 8 + r.val) j)
    (hA : ∀ (r : Fin 512) (j : Fin 512), A (ix2 r j) = acc x0 x1 x2 x3 ⟨g, hg⟩ r ⟨j.val, by omega⟩)
    (hH : ∀ (i : Fin 8) (j : Fin 512), H (ix2 i j) = h (ix3 ⟨g, hg⟩ i j))
    (x : (Rect.unit (s := S8x512x768) ![g, r₀, 0] S1x128x512.size inb).shape.Idx) :
    P x = tile x0 x1 x2 x3 x4 h ((Rect.unit (s := S8x512x768) ![g, r₀, 0] S1x128x512.size inb).emb x) := by
  have hr : r₀ + 128 ≤ 512 := inb 1
  obtain ⟨r, j, rfl⟩ : ∃ (r : Fin 128) (j : Fin 512), x = (ix3 0 r j : S1x128x512.Idx) := ⟨x 1, x 2, funext fun a => by
    match a with
    | ⟨0, _⟩ => exact Subsingleton.elim (α := Fin 1) _ _
    | ⟨1, _⟩ => rfl
    | ⟨2, _⟩ => rfl⟩
  have e : tile x0 x1 x2 x3 x4 h ((Rect.unit (s := S8x512x768) ![g, r₀, 0] S1x128x512.size inb).emb (ix3 0 r j : S1x128x512.Idx))
      = tileAt x0 x1 x2 x3 x4 h ⟨g, hg⟩ ⟨r₀ + r.val, by omega⟩ ⟨j.val, by omega⟩ := by
    unfold tile
    congr 1
    · exact Fin.ext (show r₀ + 1 * r.val = r₀ + r.val by omega)
    · exact Fin.ext (show 0 + 1 * j.val = j.val by omega)
  have hrow : row (fun r j => A (ix2 r j)) (fun i j => H (ix2 i j)) = buf x0 x1 x2 x3 h ⟨g, hg⟩ := by
    unfold buf
    rw [show (fun r j => A (ix2 r j)) = _ from funext fun r => funext fun j => hA r j,
      show (fun i j => H (ix2 i j)) = _ from funext fun i => funext fun j => hH i j]
  rw [e, hP, conv4_at, ha, hb, hc, hd, hrow, hcw, hcw, hcw, hcw]
  unfold tileAt
  rw [dif_pos (show (⟨j.val, by omega⟩ : Fin 768).val < 512 from j.isLt), show r₀ + 5 + r.val = r₀ + r.val + 5 by omega,
    show r₀ + 6 + r.val = r₀ + r.val + 6 by omega, show r₀ + 7 + r.val = r₀ + r.val + 7 by omega,
    show r₀ + 8 + r.val = r₀ + r.val + 8 by omega]

/-- A piece of the result that is not convolved. -/
theorem plain_piece {g c : ℕ} {inb} (hg : g < 8) (hc : c = 768 * g) {P : FVec Ideal S1x512x256 .bf16}
    {M₀ : Memref sig .tc .vmem S512x1024 .f32} {H₀ : M₀.IsWhole} {M₁ M₂ : Memref sig .tc .vmem S1x1x1024 .f32} {H₁ : M₁.IsWhole}
    {H₂ : M₂.IsWhole} {M₃ : Memref sig .tc .vmem S1024x6144 .bf16} {H₃ : M₃.IsWhole} {i₀ i₁ i₂ i₃}
    (hP : P = k0_pay5 (F := Ideal)
      (M₀.view.readAt (Elt Ideal) (Rect.unit (s := S512x1024) ![0, 0] S512x1024.size i₀).toLoadRect (H₀.unread x0))
      (M₁.view.readAt (Elt Ideal) (Rect.unit (s := S1x1x1024) ![0, 0, 0] S1x1x1024.size i₁).toLoadRect (H₁.unread x1))
      (M₂.view.readAt (Elt Ideal) (Rect.unit (s := S1x1x1024) ![0, 0, 0] S1x1x1024.size i₂).toLoadRect (H₂.unread x2))
      (M₃.view.readAt (Elt Ideal) (Rect.unit (s := S1024x6144) ![0, c] S1024x768.size i₃).toLoadRect (H₃.unread x3)))
    (x : (Rect.unit (s := S8x512x768) ![g, 0, 512] S1x512x256.size inb).shape.Idx) :
    P x = tile x0 x1 x2 x3 x4 h ((Rect.unit (s := S8x512x768) ![g, 0, 512] S1x512x256.size inb).emb x) := by
  obtain ⟨r, j, rfl⟩ : ∃ (r : Fin 512) (j : Fin 256), x = (ix3 0 r j : S1x512x256.Idx) := ⟨x 1, x 2, funext fun a => by
    match a with
    | ⟨0, _⟩ => exact Subsingleton.elim (α := Fin 1) _ _
    | ⟨1, _⟩ => rfl
    | ⟨2, _⟩ => rfl⟩
  have e : tile x0 x1 x2 x3 x4 h ((Rect.unit (s := S8x512x768) ![g, 0, 512] S1x512x256.size inb).emb (ix3 0 r j : S1x512x256.Idx))
      = tileAt x0 x1 x2 x3 x4 h ⟨g, hg⟩ r ⟨512 + j.val, by omega⟩ := by
    unfold tile
    congr 1
    · exact Fin.ext (show 0 + 1 * r.val = r.val by omega)
    · exact Fin.ext (show 512 + 1 * j.val = 512 + j.val by omega)
  rw [e, hP, pay5_at, prod_at hg hc]
  unfold tileAt
  rw [dif_neg (show ¬(⟨512 + j.val, by omega⟩ : Fin 768).val < 512 from Nat.not_lt.2 (Nat.le_add_right _ _))]

/-- A piece of what is handed on. -/
theorem carry_piece {g : ℕ} {inb} (hg : g < 8) {P : FVec Ideal S1x8x512 .f32} {a : FVec Ideal S8x512 .f32}
    {A : FVec Ideal S512x512 .f32} {H : FVec Ideal S8x512 .f32} (hP : P = k0_pay10 (F := Ideal) a)
    (ha : ∀ (r : Fin 8) (j : Fin 512), a (ix2 r j) = row (fun r j => A (ix2 r j)) (fun i j => H (ix2 i j)) (512 + r.val) j)
    (hA : ∀ (r : Fin 512) (j : Fin 512), A (ix2 r j) = acc x0 x1 x2 x3 ⟨g, hg⟩ r ⟨j.val, by omega⟩)
    (x : (Rect.unit (s := S8x8x512) ![g, 0, 0] S1x8x512.size inb).shape.Idx) :
    P x = carry x0 x1 x2 x3 ((Rect.unit (s := S8x8x512) ![g, 0, 0] S1x8x512.size inb).emb x) := by
  obtain ⟨r, j, rfl⟩ : ∃ (r : Fin 8) (j : Fin 512), x = (ix3 0 r j : S1x8x512.Idx) := ⟨x 1, x 2, funext fun a => by
    match a with
    | ⟨0, _⟩ => exact Subsingleton.elim (α := Fin 1) _ _
    | ⟨1, _⟩ => rfl
    | ⟨2, _⟩ => rfl⟩
  rw [hP, pay10_at, ha]
  unfold row carry
  rw [dif_neg (by omega), dif_pos (show 512 + r.val - 8 < 512 by omega)]
  refine Eq.trans (hA _ _) ?_
  congr 1
  · exact Fin.ext (show 512 + r.val - 8 = 504 + (0 + 1 * r.val) by omega)
  · exact Fin.ext (show j.val = 0 + 1 * j.val by omega)

/-- The rows handed on, piece by piece. -/
theorem carry_step {g : ℕ} {inb} (hg : g < 8) {P : FVec Ideal S1x8x512 .f32} {a : FVec Ideal S8x512 .f32}
    {A : FVec Ideal S512x512 .f32} {H : FVec Ideal S8x512 .f32} {L : List (View.Piece (Elt Ideal) S8x8x512 .f32)} {y : S8x8x512.Idx}
    (hP : P = k0_pay10 (F := Ideal) a)
    (ha : ∀ (r : Fin 8) (j : Fin 512), a (ix2 r j) = row (fun r j => A (ix2 r j)) (fun i j => H (ix2 i j)) (512 + r.val) j)
    (hA : ∀ (r : Fin 512) (j : Fin 512), A (ix2 r j) = acc x0 x1 x2 x3 ⟨g, hg⟩ r ⟨j.val, by omega⟩)
    (hL : (y 0).val ≠ g → View.canon (Val := Elt Ideal) (e := .f32) L y = carry x0 x1 x2 x3 y) :
    View.canon (Val := Elt Ideal) (e := .f32) (⟨Rect.unit (s := S8x8x512) ![g, 0, 0] S1x8x512.size inb, P⟩ :: L) y
      = carry x0 x1 x2 x3 y := by
  by_cases h0 : (y 0).val = g
  · have e : y = (Rect.unit (s := S8x8x512) ![g, 0, 0] S1x8x512.size inb).emb (ix3 0 (y 1) (y 2) : S1x8x512.Idx) :=
      funext fun a => by
        match a with
        | ⟨0, _⟩ => exact Fin.ext (h0.trans (show g = g + 1 * 0 by omega))
        | ⟨1, _⟩ => exact Fin.ext (show (y 1).val = 0 + 1 * (y 1).val by omega)
        | ⟨2, _⟩ => exact Fin.ext (show (y 2).val = 0 + 1 * (y 2).val by omega)
    refine (canon_head _ _ _ _ _ e).trans ((carry_piece hg hP ha hA _).trans (congrArg _ e.symm))
  · refine (View.canon_cons_of_not_mem _ _ fun hm => ?_).trans (hL h0)
    obtain ⟨x, hx⟩ := LoadRect.exists_idx_of_mem _ hm
    have e := congrArg (fun y : S8x8x512.Idx => (y 0).val) hx
    have hx0 := (x 0).isLt
    change g + 1 * (x 0).val = (y 0).val at e
    change (x 0).val < 1 at hx0
    omega

end

end Cert.QkvzIdeal.Tile

end
-- ==== Proof.QkvzBlock.lean ====
module

public import proofs.«01_k».proof.Proof.QkvzTile

@[expose] public section

/-! # What a block of the projection leaves -/

noncomputable section

namespace Cert.QkvzIdeal.Block

open Cert.QkvzIdeal Cert.QkvzIdeal.Gen Cert.QkvzIdeal.Tile Idealize.ShloMosaic Idealize.ShloMosaic.TcCoe Idealize.SL.Sem

set_option maxRecDepth 16384

set_option maxHeartbeats 8000000 in
/-- The block's result at the start of a sequence. -/
theorem out_A  (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1024x6144 .bf16) (harg5 : arg5.IsWhole) (arg6 : Memref sig .tc .vmem S4x6144 .f32) (harg6 : arg6.IsWhole) (arg7 : Memref sig .tc .vmem S8x512x768 .bf16) (harg7 : arg7.IsWhole) (arg8 : Memref sig .tc .vmem S2x520x512 .f32) (harg8 : arg8.IsWhole) (arg9 : Memref sig .tc .vmem S8x8x512 .f32) (harg9 : arg9.IsWhole) (hc0 : cond0_0 i)
    (x0 : Vec Ideal S512x1024 .f32) (x1 : Vec Ideal S1x1x1024 .f32) (x2 : Vec Ideal S1x1x1024 .f32) (x3 : Vec Ideal S1024x6144 .bf16) (x4 : Vec Ideal S4x6144 .f32) (y : S8x512x768.Idx) :
    out0_A_5 (F := Ideal) c i arg2 harg2 arg3 harg3 arg4 harg4 arg5 harg5 arg6 harg6 arg7 harg7 arg8 harg8 arg9 harg9 hc0 x0 x1 x2 x3 x4 y = tile x0 x1 x2 x3 x4 (fun _ => (0 : EReal)) y := by
  unfold out0_A_5
  refine View.read_writes_apply_of_pieces (Val := Elt Ideal) (e := .bf16) _ _ (tile x0 x1 x2 x3 x4 (fun _ => (0 : EReal))) _ ?_ y (cover0_A_5 ..)
  unfold kernelRun0_A
  dsimp only
  repeat' refine List.forall_mem_cons.2 ⟨fun x => ?_, ?_⟩
  all_goals first
    | have _ : S1x128x512.Idx := x
      dsimp only
      exact conv_piece (by decide) rfl (taps_at _ rfl rfl) (tap rfl) (tap rfl) (tap rfl) (tap rfl) (acc_at _ rfl rfl)
        (halo_zero (by decide) rfl (by (repeat refine zero_cons (by decide) ?_); exact zero_fill)) x
    | have _ : S1x512x256.Idx := x
      dsimp only
      exact plain_piece (by decide) (by rfl) rfl x
    | exact fun _ hp => absurd hp List.not_mem_nil

set_option maxHeartbeats 8000000 in
/-- What the block hands on at the start of a sequence. -/
theorem carry_A  (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1024x6144 .bf16) (harg5 : arg5.IsWhole) (arg6 : Memref sig .tc .vmem S4x6144 .f32) (harg6 : arg6.IsWhole) (arg7 : Memref sig .tc .vmem S8x512x768 .bf16) (harg7 : arg7.IsWhole) (arg8 : Memref sig .tc .vmem S2x520x512 .f32) (harg8 : arg8.IsWhole) (arg9 : Memref sig .tc .vmem S8x8x512 .f32) (harg9 : arg9.IsWhole) (hc0 : cond0_0 i)
    (x0 : Vec Ideal S512x1024 .f32) (x1 : Vec Ideal S1x1x1024 .f32) (x2 : Vec Ideal S1x1x1024 .f32) (x3 : Vec Ideal S1024x6144 .bf16) (x4 : Vec Ideal S4x6144 .f32) (y : S8x8x512.Idx) :
    sout0_A_1 (F := Ideal) c i arg2 harg2 arg3 harg3 arg4 harg4 arg5 harg5 arg6 harg6 arg7 harg7 arg8 harg8 arg9 harg9 hc0 x0 x1 x2 x3 x4 y = carry x0 x1 x2 x3 y := by
  unfold sout0_A_1
  refine (View.read_writes_junk_apply_eq_canon _ y _).trans ?_
  unfold kernelRun0_A
  dsimp only
  iterate 8 refine carry_step (by decide) rfl (tap rfl) (acc_at _ rfl rfl) fun _ => ?_
  have hy := (y 0).isLt
  change (y 0).val < 8 at hy
  omega

set_option maxHeartbeats 8000000 in
/-- The block's result inside a sequence. -/
theorem out_B  (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1024x6144 .bf16) (harg5 : arg5.IsWhole) (arg6 : Memref sig .tc .vmem S4x6144 .f32) (harg6 : arg6.IsWhole) (arg7 : Memref sig .tc .vmem S8x512x768 .bf16) (harg7 : arg7.IsWhole) (arg8 : Memref sig .tc .vmem S2x520x512 .f32) (harg8 : arg8.IsWhole) (arg9 : Memref sig .tc .vmem S8x8x512 .f32) (harg9 : arg9.IsWhole) (hc0 : ¬cond0_0 i)
    (x0 : Vec Ideal S512x1024 .f32) (x1 : Vec Ideal S1x1x1024 .f32) (x2 : Vec Ideal S1x1x1024 .f32) (x3 : Vec Ideal S1024x6144 .bf16) (x4 : Vec Ideal S4x6144 .f32) (xs1 : Vec Ideal S8x8x512 .f32) (y : S8x512x768.Idx) :
    out0_B_5 (F := Ideal) c i arg2 harg2 arg3 harg3 arg4 harg4 arg5 harg5 arg6 harg6 arg7 harg7 arg8 harg8 arg9 harg9 hc0 x0 x1 x2 x3 x4 xs1 y = tile x0 x1 x2 x3 x4 xs1 y := by
  unfold out0_B_5
  refine View.read_writes_apply_of_pieces (Val := Elt Ideal) (e := .bf16) _ _ (tile x0 x1 x2 x3 x4 xs1) _ ?_ y (cover0_B_5 ..)
  unfold kernelRun0_B
  dsimp only
  repeat' refine List.forall_mem_cons.2 ⟨fun x => ?_, ?_⟩
  all_goals first
    | have _ : S1x128x512.Idx := x
      dsimp only
      exact conv_piece (by decide) rfl (taps_at _ rfl rfl) (tap rfl) (tap rfl) (tap rfl) (tap rfl) (acc_at _ rfl rfl)
        (halo_at _ rfl) x
    | have _ : S1x512x256.Idx := x
      dsimp only
      exact plain_piece (by decide) (by rfl) rfl x
    | exact fun _ hp => absurd hp List.not_mem_nil

set_option maxHeartbeats 8000000 in
/-- What the block hands on inside a sequence. -/
theorem carry_B  (c : Dev nD) (i : grid0.Coords) (arg2 : Memref sig .tc .vmem S512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1024x6144 .bf16) (harg5 : arg5.IsWhole) (arg6 : Memref sig .tc .vmem S4x6144 .f32) (harg6 : arg6.IsWhole) (arg7 : Memref sig .tc .vmem S8x512x768 .bf16) (harg7 : arg7.IsWhole) (arg8 : Memref sig .tc .vmem S2x520x512 .f32) (harg8 : arg8.IsWhole) (arg9 : Memref sig .tc .vmem S8x8x512 .f32) (harg9 : arg9.IsWhole) (hc0 : ¬cond0_0 i)
    (x0 : Vec Ideal S512x1024 .f32) (x1 : Vec Ideal S1x1x1024 .f32) (x2 : Vec Ideal S1x1x1024 .f32) (x3 : Vec Ideal S1024x6144 .bf16) (x4 : Vec Ideal S4x6144 .f32) (xs1 : Vec Ideal S8x8x512 .f32) (y : S8x8x512.Idx) :
    sout0_B_1 (F := Ideal) c i arg2 harg2 arg3 harg3 arg4 harg4 arg5 harg5 arg6 harg6 arg7 harg7 arg8 harg8 arg9 harg9 hc0 x0 x1 x2 x3 x4 xs1 y = carry x0 x1 x2 x3 y := by
  unfold sout0_B_1
  refine (View.read_writes_junk_apply_eq_canon _ y _).trans ?_
  unfold kernelRun0_B
  dsimp only
  iterate 8 refine carry_step (by decide) rfl (tap rfl) (acc_at _ rfl rfl) fun _ => ?_
  have hy := (y 0).isLt
  change (y 0).val < 8 at hy
  omega

end Cert.QkvzIdeal.Block

end
-- ==== Proof.QkvzReads.lean ====
module

public import proofs.«01_k».proof.Proof.QkvzBlock
public import Idealize.ShloMosaic.Lib.StableHlo.ReadAt

@[expose] public section

/-! # The blocks a grid point of the projection reads are its tile of the arguments -/

noncomputable section

namespace Cert.QkvzIdeal.Block

open Cert.QkvzIdeal Cert.QkvzIdeal.Gen Cert.QkvzIdeal.Tile Idealize.ShloMosaic Idealize.ShloMosaic.TcCoe Idealize.SL.Sem
open Idealize.ShloMosaic.Pipeline (Dat)
open Cert.QkvzSpec (Args col col_lt col_lt_conv)
open Cert.TailSpec (bat pos)

set_option maxRecDepth 16384

variable (m : (ℓ : Loc nD τ sig) → Buf (Elt Ideal) ℓ)

/-- The projection's arguments as launched. -/
def args (c : Dev nD) : Args where
  x n k := (show FVec Ideal S4x8192x1024 .f32 from m ((c : Thread nD τ).loc main_arg0)) (ix3 (bat n) (pos n) k)
  sc b k := (show FVec Ideal S4x1x1024 .f32 from m ((c : Thread nD τ).loc main_arg1)) (ix3 b 0 k)
  sh b k := (show FVec Ideal S4x1x1024 .f32 from m ((c : Thread nD τ).loc main_arg2)) (ix3 b 0 k)
  w k e := (show FVec Ideal S1024x10784 .f32 from m ((c : Thread nD τ).loc main_arg3)) (ix2 k ⟨2560 + e.val, by omega⟩)
  cw i f := (show FVec Ideal S4x4096 .f32 from m ((c : Thread nD τ).loc main_arg4)) (ix2 i f)

/-- Row `r` of tile `T`. -/
def tok (T : Fin 64) (r : Fin 512) : Fin 32768 := ⟨512 * T.val + r.val, by omega⟩

/-- The batch of a tile. -/
def batT (T : Fin 64) : Fin 4 := ⟨T.val / 16, by omega⟩

/-- Every window's block index at a grid point. -/
theorem idx : ∀ t : Fin cfg0.N,
    win0_0.index t = ![t.val, 0] ∧ win0_1.index t = ![t.val / 16, 0, 0] ∧ win0_2.index t = ![t.val / 16, 0, 0]
    ∧ win0_3.index t = ![0, 0] ∧ win0_4.index t = ![0, 0] ∧ win0_5.index t = ![0, t.val, 0] :=
  (by decide +kernel : ∀ t : Fin grid0.N, _)

/-- The token block is the tile's tokens. -/
theorem x_at (c : Dev nD) (t : Fin cfg0.N) (r : Fin 512) (k : Fin 1024) :
    (show FVec Ideal S512x1024 .f32 from iblk m c 0 t) (ix2 r k) = (args m c).x (tok ⟨t.val, t.isLt⟩ r) k := by
  show _ = (show FVec Ideal S4x8192x1024 .f32 from m ((c : Thread nD τ).loc main_arg0)) _
  blk_point [iblk, V, (idx t).1]
  all_goals (simp only [tok, bat, pos]; omega)

/-- The scale block is the batch's scale. -/
theorem sc_at (c : Dev nD) (t : Fin cfg0.N) (k : Fin 1024) :
    (show FVec Ideal S1x1x1024 .f32 from iblk m c 1 t) (ix3 0 0 k) = (args m c).sc (batT ⟨t.val, t.isLt⟩) k := by
  show _ = (show FVec Ideal S4x1x1024 .f32 from m ((c : Thread nD τ).loc main_arg1)) _
  blk_point [iblk, V, (idx t).2.1]
  all_goals (simp only [batT]; omega)

/-- The shift block is the batch's shift. -/
theorem sh_at (c : Dev nD) (t : Fin cfg0.N) (k : Fin 1024) :
    (show FVec Ideal S1x1x1024 .f32 from iblk m c 2 t) (ix3 0 0 k) = (args m c).sh (batT ⟨t.val, t.isLt⟩) k := by
  show _ = (show FVec Ideal S4x1x1024 .f32 from m ((c : Thread nD τ).loc main_arg2)) _
  blk_point [iblk, V, (idx t).2.2.1]
  all_goals (simp only [batT]; omega)

/-- An array of eight groups of 768 columns laid out as 6144 columns. -/
theorem ungroup {n : ℕ} (y : (⟨3, ![n, 8, 768]⟩ : Shape).Idx → EReal) (h) (k : Fin n) (g : Fin 8) (j : Fin 768) :
    shapeCast (⟨2, ![n, 6144]⟩ : Shape) y h (ix2 k (gcol g j)) = y (ix3 k g j) := by
  refine shapeCast_apply y h _ _ ?_
  rw [Shape.rowMajor_val_three, Shape.rowMajor_val_two]
  show (k.val * 8 + g.val) * 768 + j.val = k.val * 6144 + (768 * g.val + j.val)
  omega

/-- The weights block holds the weights group by group. -/
theorem w_at (c : Dev nD) (t : Fin cfg0.N) (k : Fin 1024) (g : Fin 8) (j : Fin 768) :
    (show FVec Ideal S1024x6144 .bf16 from iblk m c 3 t) (ix2 k (gcol g j)) = (args m c).w k ⟨col g j, col_lt g j⟩ := by
  have e : (show FVec Ideal S1024x6144 .bf16 from iblk m c 3 t) (ix2 k (gcol g j))
      = (show FVec Ideal S1024x6144 .bf16 from V m c main_v10) (ix2 k (gcol g j)) := by
    generalize gcol g j = e
    blk_point [iblk, (idx t).2.2.2.1]
  refine e.trans ?_
  unfold V
  after_reads_simp
  simp only [Matrix.cons_val]
  clean_types
  refine (ungroup _ _ k g j).trans ?_
  after_reads_simp
  clean_types
  pointwise []
  have e' (i : Fin 10784) (hi : i.val = 2560 + col g j) :
      m (c, Proc.tc.devRef main_arg3) (ix2 k i) = (args m c).w k ⟨col g j, col_lt g j⟩ :=
    congrArg (fun i => m (c, Proc.tc.devRef main_arg3) (ix2 k i)) (Fin.ext hi)
  have hj := j.isLt
  split_ifs
  all_goals exact e' _ (by unfold col; dsimp only; split_ifs <;> omega)

/-- The taps block holds the taps group by group. -/
theorem cw_at (c : Dev nD) (t : Fin cfg0.N) (k : Fin 4) (g : Fin 8) (j : Fin 768) (hj : j.val < 512) :
    (show FVec Ideal S4x6144 .f32 from iblk m c 4 t) (ix2 k (gcol g j)) = (args m c).cw k ⟨col g j, col_lt_conv g j hj⟩ := by
  have e : (show FVec Ideal S4x6144 .f32 from iblk m c 4 t) (ix2 k (gcol g j))
      = (show FVec Ideal S4x6144 .f32 from V m c main_v20) (ix2 k (gcol g j)) := by
    generalize gcol g j = e
    blk_point [iblk, (idx t).2.2.2.2.1]
  refine e.trans ?_
  unfold V
  after_reads_simp
  simp only [Matrix.cons_val]
  clean_types
  refine (ungroup _ _ k g j).trans ?_
  after_reads_simp
  clean_types
  pointwise []
  have e' (i : Fin 4096) (hi : i.val = col g j) :
      m (c, Proc.tc.devRef main_arg4) (ix2 k i) = (args m c).cw k ⟨col g j, col_lt_conv g j hj⟩ :=
    congrArg (fun i => m (c, Proc.tc.devRef main_arg4) (ix2 k i)) (Fin.ext hi)
  split_ifs
  all_goals first
    | exact e' _ (by unfold col; dsimp only; split_ifs <;> omega)
    | omega

end Cert.QkvzIdeal.Block

end
-- ==== Proof.QkvzArray.lean ====
module

public import proofs.«01_k».proof.Proof.QkvzReads

@[expose] public section

/-! # The projection's result array -/

noncomputable section

namespace Cert.QkvzIdeal.Block

open Cert.QkvzIdeal Cert.QkvzIdeal.Gen Cert.QkvzIdeal.Tile Idealize.ShloMosaic Idealize.ShloMosaic.TcCoe Idealize.SL.Sem
open Idealize.ShloMosaic.Pipeline (Dat)
open Cert.QkvzSpec (Args col col_lt col_lt_conv proj back conv)
open Cert.TailSpec (bat pos)

set_option maxRecDepth 16384

variable (m : (ℓ : Loc nD τ sig) → Buf (Elt Ideal) ℓ)

/-- The block's projection is the projection of its tokens. -/
theorem acc_proj (c : Dev nD) (t : Fin cfg0.N) (g : Fin 8) (r : Fin 512) (e : Fin 768) :
    acc (iblk m c 0 t) (iblk m c 1 t) (iblk m c 2 t) (iblk m c 3 t) g r e
      = proj (args m c) (tok ⟨t.val, t.isLt⟩ r) ⟨col g e, col_lt g e⟩ := by
  have hb : bat (tok ⟨t.val, t.isLt⟩ r) = batT ⟨t.val, t.isLt⟩ := Fin.ext (by simp only [bat, tok, batT]; omega)
  unfold acc proj QkvzSpec.hid
  rw [hb]
  refine Finset.sum_congr rfl fun k _ => ?_
  have e0 := x_at m c t r k
  have e1 := sc_at m c t k
  have e2 := sh_at m c t k
  have e3 := w_at m c t k g e
  exact congrArg₂ (· * ·) (congrArg₂ (· + ·) (congrArg₂ (· * ·) e0 (congrArg (1 + ·) e1)) e2) e3

/-- What the eight carried rows hold when a tile begins. -/
structure Halo (A : Args) (T : Fin 64) (h : Vec Ideal S8x8x512 .f32) : Prop where
  zero : T.val % 16 = 0 → ∀ (g i : Fin 8) (j : Fin 512), h (ix3 g i j) = (0 : EReal)
  prev : ¬T.val % 16 = 0 → ∀ (g i : Fin 8) (j : Fin 512), h (ix3 g i j)
    = proj A (tok ⟨T.val - 1, by omega⟩ ⟨504 + i.val, by omega⟩) ⟨col g ⟨j.val, by omega⟩, col_lt ..⟩

/-- The buffer's row `d` back from a token's own is the projection `d` tokens back. -/
theorem buf_back (c : Dev nD) (t : Fin cfg0.N) {h : Vec Ideal S8x8x512 .f32} (H : Halo (args m c) ⟨t.val, t.isLt⟩ h) {d o : ℕ}
    (hd : d + o = 8) (ho : 5 ≤ o) (g : Fin 8) (r : Fin 512) (j : Fin 512) :
    buf (iblk m c 0 t) (iblk m c 1 t) (iblk m c 2 t) (iblk m c 3 t) h g (r.val + o) j
      = back (args m c) d (tok ⟨t.val, t.isLt⟩ r) ⟨col g ⟨j.val, by omega⟩, col_lt ..⟩ := by
  have ht : t.val < 64 := t.isLt
  have hr := r.isLt
  have hp : (pos (tok ⟨t.val, t.isLt⟩ r)).val = (512 * t.val + r.val) % 8192 := rfl
  unfold buf row back
  by_cases h8 : r.val + o < 8
  · rw [dif_pos h8]
    by_cases h0 : t.val % 16 = 0
    · refine (H.zero h0 g ⟨r.val + o, h8⟩ j).trans ?_
      rw [if_neg (by rw [hp]; omega)]
    · refine (H.prev h0 g ⟨r.val + o, h8⟩ j).trans ?_
      rw [if_pos (by rw [hp]; omega)]
      refine congrArg (fun n => proj (args m c) n _) (Fin.ext ?_)
      show 512 * (t.val - 1) + (504 + (r.val + o)) = 512 * t.val + r.val - d
      omega
  · rw [dif_neg h8, dif_pos (by omega)]
    refine (acc_proj m c t g ⟨r.val + o - 8, by omega⟩ ⟨j.val, by omega⟩).trans ?_
    rw [if_pos (by rw [hp]; omega)]
    refine congrArg (fun n => proj (args m c) n _) (Fin.ext ?_)
    show 512 * t.val + (r.val + o - 8) = 512 * t.val + r.val - d
    omega

/-- The block's result is the projection's result at its tokens. -/
theorem tile_at (c : Dev nD) (t : Fin cfg0.N) {h : Vec Ideal S8x8x512 .f32} (H : Halo (args m c) ⟨t.val, t.isLt⟩ h)
    (g : Fin 8) (r : Fin 512) (j : Fin 768) :
    tile (iblk m c 0 t) (iblk m c 1 t) (iblk m c 2 t) (iblk m c 3 t) (iblk m c 4 t) h (ix3 g r j)
      = QkvzSpec.out (args m c) g (tok ⟨t.val, t.isLt⟩ r) j := by
  show tileAt _ _ _ _ _ h g r j = _
  unfold tileAt QkvzSpec.out
  split_ifs with hj
  · have e (i : Fin 4) := cw_at m c t i g j hj
    have b3 := buf_back m c t H (d := 3) (o := 5) rfl (by omega) g r ⟨j.val, hj⟩
    have b2 := buf_back m c t H (d := 2) (o := 6) rfl (by omega) g r ⟨j.val, hj⟩
    have b1 := buf_back m c t H (d := 1) (o := 7) rfl (by omega) g r ⟨j.val, hj⟩
    have b0 := buf_back m c t H (d := 0) (o := 8) rfl (by omega) g r ⟨j.val, hj⟩
    unfold conv
    exact congrArg₂ (· + ·) (congrArg₂ (· + ·) (congrArg₂ (· + ·) (congrArg₂ (· * ·) (e 0) b3) (congrArg₂ (· * ·) (e 1) b2))
      (congrArg₂ (· * ·) (e 2) b1)) (congrArg₂ (· * ·) (e 3) b0)
  · exact acc_proj m c t g r j

/-- What a grid point leaves for the next one. -/
theorem carried (c : Dev nD) (t : Fin cfg0.N) (g i : Fin 8) (j : Fin 512) :
    (outsAt0 m c t.val t.isLt).2 (ix3 g i j)
      = proj (args m c) (tok ⟨t.val, t.isLt⟩ ⟨504 + i.val, by omega⟩) ⟨col g ⟨j.val, by omega⟩, col_lt ..⟩ := by
  refine Eq.trans (b := carry (iblk m c 0 t) (iblk m c 1 t) (iblk m c 2 t) (iblk m c 3 t) (ix3 g i j)) ?_
    (acc_proj m c t g ⟨504 + i.val, by omega⟩ ⟨j.val, by omega⟩)
  by_cases h0 : t.val % 16 = 0
  · rw [outsAt0_A m c t h0]
    dsimp only
    exact carry_A ..
  · rw [outsAt0_B m c t h0]
    dsimp only
    exact carry_B ..

/-- What a grid point writes is the projection's result at its tokens. -/
theorem left_at (c : Dev nD) (t : Fin cfg0.N) (g : Fin 8) (r : Fin 512) (j : Fin 768) :
    (outsAt0 m c t.val t.isLt).1 (ix3 g r j)
      = QkvzSpec.out (args m c) g (tok ⟨t.val, t.isLt⟩ r) j := by
  by_cases h0 : t.val % 16 = 0
  · rw [outsAt0_A m c t h0]
    dsimp only
    exact (out_A ..).trans (tile_at m c t ⟨fun _ _ _ _ => rfl, fun h => absurd h0 h⟩ g r j)
  · rw [outsAt0_B m c t h0]
    have hp : t.val - 1 < cfg0.N := Nat.lt_of_le_of_lt (Nat.sub_le _ _) t.isLt
    dsimp only
    exact (out_B ..).trans (tile_at m c t ⟨fun h => absurd h h0, fun _ => carried m c ⟨t.val - 1, hp⟩⟩ g r j)

/-- The result array after the run. -/
theorem final (c : Dev nD) : (dats m 0 c).arrAt 5 (cfgs 0).N
    = fun i : S8x32768x768.Idx => QkvzSpec.out (args m c) (i 0) (i 1) (i 2) := by
  refine (dats m 0 c).arrAt_eq_of_covers 5 _ (by decide +kernel) fun t _ y => ?_
  blk_simp
  rw [after0_5]
  refine Eq.trans (congrArg (outsAt0 m c t.val t.isLt).1 (?_ : _ = ix3 (y 0) (y 1) (y 2))) ((left_at m c t (y 0) (y 1) (y 2)).trans ?_)
  · funext a
    fin_cases a <;> rfl
  · have e : win0_5.index t = ![0, t.val, 0] := (idx t).2.2.2.2.2
    congr 1
    · apply Fin.ext
      blk_simp [e]
    · apply Fin.ext
      blk_simp [e]
      show 512 * t.val + (y 1).val = t.val * 512 + (y 1).val
      omega
    · apply Fin.ext
      blk_simp [e]

end Cert.QkvzIdeal.Block

end
-- ==== Proof.QkvzRef.lean ====
module

public import proofs.«01_k».proof.Proof.QkvzSpec
public import proofs.«01_k».proof.Proof.Gen.QkvzReferenceIdeal.Read
public import Idealize.ShloMosaic.Lib.Tactic.CleanTypes

@[expose] public section

/-! # The projection's reference, element by element -/

noncomputable section

namespace Cert.QkvzReferenceIdeal.At

open Cert.QkvzReferenceIdeal Cert.QkvzReferenceIdeal.Read Idealize.ShloMosaic Cert.QkvzSpec
open Cert.TailSpec (bat pos tok bat_tok pos_tok tok_eq)

set_option maxRecDepth 16384

variable (x0 : FVec Ideal S4x8192x1024 .f32) (x1 x2 : FVec Ideal S4x1x1024 .f32) (x3 : FVec Ideal S1024x10784 .f32)
  (x4 : FVec Ideal S4x4096 .f32)

/-- The reference's arguments, read token by token. -/
def args : Args where
  x n k := x0 (ix3 (bat n) (pos n) k)
  sc b k := x1 (ix3 b 0 k)
  sh b k := x2 (ix3 b 0 k)
  w k e := x3 (ix2 k ⟨2560 + e.val, by omega⟩)
  cw i f := x4 (ix2 i f)

/-- The projection. -/
theorem v7_at (b : Fin 4) (s : Fin 8192) (e : Fin 6144) :
    val_main_v7 (F := Ideal) x0 x1 x2 x3 (ix3 b s e) = proj (args x0 x1 x2 x3 x4) (tok b s) e := by
  unfold val_main_v7 val_main_v6 val_main_v5 val_main_v4 val_main_v3 val_main_v2 val_main_v1 val_main_v0 val_main_cst
  clean_types
  pointwise []
  simp only [proj, hid, args, bat_tok, pos_tok, Ideal.ofBits_one_f32]

/-- The convolution. -/
theorem v38_at (b : Fin 4) (s : Fin 8192) (f : Fin 4096) :
    val_main_v38 (F := Ideal) x0 x1 x2 x3 x4 (ix3 b s f) = conv (args x0 x1 x2 x3 x4) (tok b s) f := by
  have e : ∀ s e, val_main_v7 (F := Ideal) x0 x1 x2 x3 (ix3 b s e) = proj (args x0 x1 x2 x3 x4) (tok b s) e :=
    fun s e => v7_at x0 x1 x2 x3 x4 b s e
  unfold val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_cst_0 val_main_call0_v0 val_main_c
  clean_types
  generalize val_main_v7 (F := Ideal) x0 x1 x2 x3 = y at e ⊢
  pointwise []
  have z : (FloatOps.sitofp .f32 (0#32 : BitVec 32) : Ideal .f32) = (0 : EReal) := by
    show ((((0#32 : BitVec 32).toInt : ℤ) : ℝ) : EReal) = 0
    norm_num
  have t : ∀ d r : ℕ, d + r = 3 → (if h : 3 ≤ r + s.val ∧ r + s.val - 3 < 8192 then y (ix3 b ⟨r + s.val - 3, h.2⟩ ⟨f.val, by omega⟩)
        else (FloatOps.sitofp .f32 (0#32 : BitVec 32) : Ideal .f32)) = back (args x0 x1 x2 x3 x4) d (tok b s) ⟨f.val, by omega⟩ := by
    intro d r hd
    by_cases h : d ≤ s.val
    · rw [dif_pos ⟨by omega, by omega⟩, back_of_le _ _ h, e]
      congr 2
      apply Fin.ext
      show r + s.val - 3 = s.val - d
      omega
    · rw [dif_neg (fun c => h (by omega)), back_of_lt _ _ (by omega), z]
  have t₀ := t 3 0 rfl
  simp only [Nat.zero_add] at t₀
  rw [t₀, t 2 1 rfl, t 1 2 rfl, e]
  unfold conv
  rw [back_of_le (args x0 x1 x2 x3 x4) (d := 0) (b := b) (s := s) ⟨f.val, by omega⟩ (Nat.zero_le _)]
  rfl

/-- The grouped columns, before the groups are moved to the front. -/
theorem v47_at (b : Fin 4) (s : Fin 8192) (g : Fin 8) (j : Fin 768) :
    val_main_v47 (F := Ideal) x0 x1 x2 x3 x4 (ix4 b s g j) = out (args x0 x1 x2 x3 x4) g (tok b s) j := by
  have e₁ : ∀ b s e, val_main_v7 (F := Ideal) x0 x1 x2 x3 (ix3 b s e) = proj (args x0 x1 x2 x3 x4) (tok b s) e :=
    fun b s e => v7_at x0 x1 x2 x3 x4 b s e
  have e₂ : ∀ b s f, val_main_v38 (F := Ideal) x0 x1 x2 x3 x4 (ix3 b s f) = conv (args x0 x1 x2 x3 x4) (tok b s) f :=
    fun b s f => v38_at x0 x1 x2 x3 x4 b s f
  unfold val_main_v47 val_main_v46 val_main_v45 val_main_v44 val_main_v43 val_main_v42 val_main_v41 val_main_v40 val_main_v39
  clean_types
  generalize val_main_v38 (F := Ideal) x0 x1 x2 x3 x4 = y₂ at e₂ ⊢
  generalize val_main_v7 (F := Ideal) x0 x1 x2 x3 = y₁ at e₁ ⊢
  pointwise []
  simp only [e₁, e₂]
  have hg := g.isLt
  have hj := j.isLt
  have e₃ (h₁ : j.val < 512) (k : Fin 4096) (hk : k.val = col g j) : conv (args x0 x1 x2 x3 x4) (tok b s) k = out (args x0 x1 x2 x3 x4) g (tok b s) j := by
    unfold out
    rw [dif_pos h₁]
    exact congrArg _ (Fin.ext hk)
  have e₄ (h₁ : ¬j.val < 512) (k : Fin 6144) (hk : k.val = col g j) : proj (args x0 x1 x2 x3 x4) (tok b s) k = out (args x0 x1 x2 x3 x4) g (tok b s) j := by
    unfold out
    rw [dif_neg h₁]
    exact congrArg _ (Fin.ext hk)
  unfold col at e₃ e₄
  split_ifs
  all_goals first
    | exact e₃ (by omega) _ (by dsimp only; split_ifs <;> omega)
    | exact e₄ (by omega) _ (by dsimp only; split_ifs <;> omega)

/-- The groups moved to the front. -/
theorem v48_at (g : Fin 8) (b : Fin 4) (s : Fin 8192) (j : Fin 768) :
    val_main_v48 (F := Ideal) x0 x1 x2 x3 x4 (ix4 g b s j) = out (args x0 x1 x2 x3 x4) g (tok b s) j := by
  have e : idx_main_v48 (ix4 g b s j) = ix4 b s g j := funext fun a => by
    match a with
    | ⟨0, _⟩ => rfl
    | ⟨1, _⟩ => rfl
    | ⟨2, _⟩ => rfl
    | ⟨3, _⟩ => rfl
  rw [val_main_v48_apply, e]
  exact v47_at x0 x1 x2 x3 x4 b s g j

/-- The result. -/
theorem v50_at (g : Fin 8) (n : Fin 32768) (j : Fin 768) :
    val_main_v50 (F := Ideal) x0 x1 x2 x3 x4 (ix3 g n j) = out (args x0 x1 x2 x3 x4) g n j := by
  have e : idx_main_v49 (ix3 g n j) = ix4 g (bat n) (pos n) j := funext fun a => by
    have hg := g.isLt
    have hn := n.isLt
    have hj := j.isLt
    match a with
    | ⟨0, _⟩ => exact Fin.ext (show ((g.val * 32768 + n.val) * 768 + j.val) / 25165824 = g.val by omega)
    | ⟨1, _⟩ => exact Fin.ext (show ((g.val * 32768 + n.val) * 768 + j.val) / 6291456 % 4 = n.val / 8192 by omega)
    | ⟨2, _⟩ => exact Fin.ext (show ((g.val * 32768 + n.val) * 768 + j.val) / 768 % 8192 = n.val % 8192 by omega)
    | ⟨3, _⟩ => exact Fin.ext (show ((g.val * 32768 + n.val) * 768 + j.val) % 768 = j.val by omega)
  have h : val_main_v49 (F := Ideal) x0 x1 x2 x3 x4 (ix3 g n j) = out (args x0 x1 x2 x3 x4) g n j := by
    rw [val_main_v49_apply, e, v48_at]
    exact congrArg (fun n => out (args x0 x1 x2 x3 x4) g n j) (tok_eq ..)
  rw [val_main_v50_apply, h]
  rfl

end Cert.QkvzReferenceIdeal.At

end
-- ==== Proof.QkvzClaim.lean ====
module

public import proofs.«01_k».proof.Defs
public import proofs.«01_k».proof.Proof.QkvzArray
public import proofs.«01_k».proof.Proof.QkvzRef
public import proofs.«01_k».proof.Proof.Gen.Qkvz.Frame
public import proofs.«01_k».proof.Proof.Gen.QkvzIdeal.Value
public import proofs.«01_k».proof.Proof.Gen.QkvzReferenceIdeal.Run
public import Idealize.ShloMosaic.Lib.Claim
public import Idealize.ShloMosaic.Lib.Quiescent

@[expose] public section

/-! # The projection's claims -/

noncomputable section

namespace Cert.Proof.QkvzClaim

open Idealize.ShloMosaic Idealize.ShloMosaic.TcCoe Idealize.SL.Sem

theorem frame_p : Cert.quiescent_Qkvz := fun m ρ _ => Cert.Qkvz.Gen.frame m ρ

theorem frame_pi : Cert.quiescent_QkvzIdeal := fun m ρ _ => Cert.QkvzIdeal.Gen.frame m ρ

theorem frame_ri : Cert.quiescent_QkvzReferenceIdeal := fun m ρ _ =>
  (θ_run Cert.QkvzReferenceIdeal.defs _ _).mono
    (fun r h => ⟨fun c => (h c).2, sem_eq_zero_of_no_sems (by decide) r.2⟩)
    (Cert.QkvzReferenceIdeal.Value.run (F := Ideal) m ρ)

theorem preserves : Cert.preserves_Qkvz_QkvzIdeal := trivial

set_option maxHeartbeats 4000000 in
theorem algebraic : Cert.algebraic_QkvzIdeal_QkvzReferenceIdeal := by
  pair_intro
  · run_from Cert.QkvzIdeal.Value.run_blocks m g
  · run_from Cert.QkvzReferenceIdeal.Value.run m' g'
    refine Eq.trans ?_ (Cert.QkvzIdeal.Block.final m c).symm
    obtain ⟨a0, a1, a2, a3, a4⟩ := hagree c
    refine (Cert.QkvzReferenceIdeal.Read.val_main_v50_eq m' c).trans ?_
    funext i
    obtain ⟨g, n, j, rfl⟩ : ∃ g n j, i = ix3 g n j := ⟨i 0, i 1, i 2, by funext a; fin_cases a <;> rfl⟩
    refine (Cert.QkvzReferenceIdeal.At.v50_at _ _ _ _ _ g n j).trans ?_
    rw [a0, a1, a2, a3, a4]
    rfl

end Cert.Proof.QkvzClaim

end
-- ==== Proof.lean ====
module

public import proofs.«01_k».proof.Defs
public import proofs.«01_k».proof.Proof.TailClaim
public import proofs.«01_k».proof.Proof.QkvzClaim

@[expose] public section

noncomputable section

namespace Cert.Proof

open Idealize.ShloMosaic Idealize.SL.Sem

/-- Every claim of the certificate. The frames under the precondition are the frames without it. -/
theorem claim : Cert.Claim :=
  ⟨Cert.Tail.Gen.facts, Cert.TailIdeal.Gen.facts, Cert.TailReferenceIdeal.Gen.facts, Cert.Qkvz.Gen.facts,
    Cert.QkvzIdeal.Gen.facts, Cert.QkvzReferenceIdeal.Gen.facts, Cert.Pre_tail_pre.Gen.facts, TailClaim.frame_p,
    TailClaim.frame_pi, fun m ρ _ => TailClaim.frame_pi m ρ trivial, TailClaim.frame_ri,
    fun m ρ _ => TailClaim.frame_ri m ρ trivial, QkvzClaim.frame_p, QkvzClaim.frame_pi, QkvzClaim.frame_ri,
    TailClaim.preserves, TailClaim.algebraic, QkvzClaim.preserves, QkvzClaim.algebraic⟩

end Cert.Proof

end
